-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S_ : Shape := ⟨0, ![]⟩
abbrev S16 : Shape := ⟨1, ![16]⟩
abbrev S1024x4096 : Shape := ⟨2, ![1024, 4096]⟩
abbrev S512x4096 : Shape := ⟨2, ![512, 4096]⟩
abbrev S1 : Shape := ⟨1, ![1]⟩
abbrev S8x2x1024x512 : Shape := ⟨4, ![8, 2, 1024, 512]⟩
abbrev S7x2 : Shape := ⟨2, ![7, 2]⟩
abbrev S2 : Shape := ⟨1, ![2]⟩
abbrev S1x1x1024x512 : Shape := ⟨4, ![1, 1, 1024, 512]⟩
abbrev S1024x512 : Shape := ⟨2, ![1024, 512]⟩
abbrev S1x1 : Shape := ⟨2, ![1, 1]⟩

abbrev nBuf : Space → Nat
  | .hbm => 77
  | .vmem => 4
  | .smem => 1
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S_, .i32⟩
  | .hbm, ⟨44, _⟩ => ⟨S_, .i1⟩
  | .hbm, ⟨45, _⟩ => ⟨S16, .i1⟩
  | .hbm, ⟨46, _⟩ => ⟨S16, .i1⟩
  | .hbm, ⟨47, _⟩ => ⟨S16, .i1⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S16, .i32⟩
  | .hbm, ⟨61, _⟩ => ⟨S16, .i32⟩
  | .hbm, ⟨62, _⟩ => ⟨S_, .i32⟩
  | .hbm, ⟨63, _⟩ => ⟨S16, .i32⟩
  | .hbm, ⟨64, _⟩ => ⟨S16, .i1⟩
  | .hbm, ⟨65, _⟩ => ⟨S_, .i32⟩
  | .hbm, ⟨66, _⟩ => ⟨S16, .i32⟩
  | .hbm, ⟨67, _⟩ => ⟨S16, .i1⟩
  | .hbm, ⟨68, _⟩ => ⟨S_, .i32⟩
  | .hbm, ⟨69, _⟩ => ⟨S_, .i1⟩
  | .hbm, ⟨70, _⟩ => ⟨S16, .i1⟩
  | .hbm, ⟨71, _⟩ => ⟨S16, .i1⟩
  | .hbm, ⟨72, _⟩ => ⟨S16, .i1⟩
  | .hbm, ⟨73, _⟩ => ⟨S16, .i32⟩
  | .hbm, ⟨74, _⟩ => ⟨S16, .i32⟩
  | .hbm, ⟨75, _⟩ => ⟨S16, .i32⟩
  | .hbm, ⟨76, _⟩ => ⟨S1024x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S8x2x1024x512, .bf16⟩
  | .local _ .smem, ⟨0, _⟩ => ⟨S16, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v9 : Ref sig .tc := ⟨.hbm, 50, rfl⟩
abbrev main_c_3 : Ref sig .tc := ⟨.hbm, 51, rfl⟩
abbrev main_v10 : Ref sig .tc := ⟨.hbm, 52, rfl⟩
abbrev main_v11 : Ref sig .tc := ⟨.hbm, 53, rfl⟩
abbrev main_c_4 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v12 : Ref sig .tc := ⟨.hbm, 75, rfl⟩
abbrev main_v14 : Ref sig .tc := ⟨.hbm, 76, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![16], ![false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_19 : BitVec 32 := 0#32
  let v42 : BitVec 1 := Scalar.cmpi .eq arg0 c0_i32_19
  let v43 : BitVec 32 := Scalar.extui v42
  let c0_i32_20 : BitVec 32 := 0#32
  let v44 : BitVec 1 := Scalar.cmpi .ne v43 c0_i32_20
  v44

def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v65 : BitVec 32 := Scalar.addi v2 c1_i32_31
  let c0_i32_32 : BitVec 32 := 0#32
  let v66 : BitVec 32 := Scalar.addi v65 c0_i32_32
  let c8_i32_33 : BitVec 32 := 8#32
  let v67 : BitVec 32 := Scalar.remsi v66 c8_i32_33
  let c1_i32_35 : BitVec 32 := 1#32
  let v68 : BitVec 32 := Scalar.muli v67 c1_i32_35
  let v69 : BitVec 32 := Scalar.addi c0_i32_36 v68
  v69.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v70 : BitVec 32 := Scalar.addi v2 c1_i32_37
  let c1_i32_38 : BitVec 32 := 1#32
  let v71 : BitVec 32 := Scalar.addi v70 c1_i32_38
  let c8_i32_39 : BitVec 32 := 8#32
  let v72 : BitVec 32 := Scalar.remsi v71 c8_i32_39
  let c1_i32_41 : BitVec 32 := 1#32
  let v73 : BitVec 32 := Scalar.muli v72 c1_i32_41
  let v74 : BitVec 32 := Scalar.addi c0_i32_42 v73
  v74.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v75 : BitVec 32 := Scalar.addi v2 c1_i32_43
  let c2_i32_44 : BitVec 32 := 2#32
  let v76 : BitVec 32 := Scalar.addi v75 c2_i32_44
  let c8_i32_45 : BitVec 32 := 8#32
  let v77 : BitVec 32 := Scalar.remsi v76 c8_i32_45
  let c1_i32_47 : BitVec 32 := 1#32
  let v78 : BitVec 32 := Scalar.muli v77 c1_i32_47
  let v79 : BitVec 32 := Scalar.addi c0_i32_48 v78
  v79.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v80 : BitVec 32 := Scalar.addi v2 c1_i32_49
  let c3_i32 : BitVec 32 := 3#32
  let v81 : BitVec 32 := Scalar.addi v80 c3_i32
  let c8_i32_50 : BitVec 32 := 8#32
  let v82 : BitVec 32 := Scalar.remsi v81 c8_i32_50
  let c1_i32_52 : BitVec 32 := 1#32
  let v83 : BitVec 32 := Scalar.muli v82 c1_i32_52
  let v84 : BitVec 32 := Scalar.addi c0_i32_53 v83
  v84.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v85 : BitVec 32 := Scalar.addi v2 c1_i32_54
  let c4_i32 : BitVec 32 := 4#32
  let v86 : BitVec 32 := Scalar.addi v85 c4_i32
  let c8_i32_55 : BitVec 32 := 8#32
  let v87 : BitVec 32 := Scalar.remsi v86 c8_i32_55
  let c1_i32_57 : BitVec 32 := 1#32
  let v88 : BitVec 32 := Scalar.muli v87 c1_i32_57
  let v89 : BitVec 32 := Scalar.addi c0_i32_58 v88
  v89.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v90 : BitVec 32 := Scalar.addi v2 c1_i32_59
  let c5_i32 : BitVec 32 := 5#32
  let v91 : BitVec 32 := Scalar.addi v90 c5_i32
  let c8_i32_60 : BitVec 32 := 8#32
  let v92 : BitVec 32 := Scalar.remsi v91 c8_i32_60
  let c1_i32_62 : BitVec 32 := 1#32
  let v93 : BitVec 32 := Scalar.muli v92 c1_i32_62
  let v94 : BitVec 32 := Scalar.addi c0_i32_63 v93
  v94.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c6_i32 : BitVec 32 := 6#32
  let v96 : BitVec 32 := Scalar.addi v95 c6_i32
  let c8_i32_65 : BitVec 32 := 8#32
  let v97 : BitVec 32 := Scalar.remsi v96 c8_i32_65
  let c1_i32_67 : BitVec 32 := 1#32
  let v98 : BitVec 32 := Scalar.muli v97 c1_i32_67
  let v99 : BitVec 32 := Scalar.addi c0_i32_68 v98
  v99.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v100 : BitVec 32 := Scalar.muli v2 c1024_i32
  let c0_i32_74 : BitVec 32 := 0#32
  ![v100.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_75 : BitVec 32 := 1024#32
  let v106 : BitVec 32 := Scalar.muli v2 c1024_i32_75
  let c512_i32 : BitVec 32 := 512#32
  ![v106.toNat, 512]
def k0_off4 (d0 : Dev nD) (c0_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v112 : BitVec 32 := Scalar.addi v2 c1_i32_81
  let v113 : BitVec 32 := Scalar.addi v112 c0_i32_82
  let c8_i32_83 : BitVec 32 := 8#32
  let v114 : BitVec 32 := Scalar.remsi v113 c8_i32_83
  let c1024_i32_84 : BitVec 32 := 1024#32
  let v115 : BitVec 32 := Scalar.muli v114 c1024_i32_84
  let c0_i32_95 : BitVec 32 := 0#32
  ![v115.toNat, 0]
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v112 : BitVec 32 := Scalar.addi v2 c1_i32_81
  let c0_i32_82 : BitVec 32 := 0#32
  let v113 : BitVec 32 := Scalar.addi v112 c0_i32_82
  let c8_i32_83 : BitVec 32 := 8#32
  let v114 : BitVec 32 := Scalar.remsi v113 c8_i32_83
  let c1_i32_91 : BitVec 32 := 1#32
  let v116 : BitVec 32 := Scalar.muli v114 c1_i32_91
  let v117 : BitVec 32 := Scalar.addi c0_i32_92 v116
  v117.toNat
def k0_off5 (d0 : Dev nD) (c0_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v112 : BitVec 32 := Scalar.addi v2 c1_i32_81
  let v113 : BitVec 32 := Scalar.addi v112 c0_i32_82
  let c8_i32_83 : BitVec 32 := 8#32
  let v114 : BitVec 32 := Scalar.remsi v113 c8_i32_83
  let c1024_i32_96 : BitVec 32 := 1024#32
  let v125 : BitVec 32 := Scalar.muli v114 c1024_i32_96
  let c512_i32_107 : BitVec 32 := 512#32
  ![v125.toNat, 512]
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v112 : BitVec 32 := Scalar.addi v2 c1_i32_81
  let c0_i32_82 : BitVec 32 := 0#32
  let v113 : BitVec 32 := Scalar.addi v112 c0_i32_82
  let c8_i32_83 : BitVec 32 := 8#32
  let v114 : BitVec 32 := Scalar.remsi v113 c8_i32_83
  let c1_i32_103 : BitVec 32 := 1#32
  let v126 : BitVec 32 := Scalar.muli v114 c1_i32_103
  let v127 : BitVec 32 := Scalar.addi c0_i32_104 v126
  v127.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v135 : BitVec 32 := Scalar.addi v2 c1_i32_108
  let c1_i32_109 : BitVec 32 := 1#32
  let v136 : BitVec 32 := Scalar.addi v135 c1_i32_109
  let c8_i32_110 : BitVec 32 := 8#32
  let v137 : BitVec 32 := Scalar.remsi v136 c8_i32_110
  let c1_i32_118 : BitVec 32 := 1#32
  let v139 : BitVec 32 := Scalar.muli v137 c1_i32_118
  let v140 : BitVec 32 := Scalar.addi c0_i32_119 v139
  v140.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v135 : BitVec 32 := Scalar.addi v2 c1_i32_108
  let c1_i32_109 : BitVec 32 := 1#32
  let v136 : BitVec 32 := Scalar.addi v135 c1_i32_109
  let c8_i32_110 : BitVec 32 := 8#32
  let v137 : BitVec 32 := Scalar.remsi v136 c8_i32_110
  let c1_i32_130 : BitVec 32 := 1#32
  let v149 : BitVec 32 := Scalar.muli v137 c1_i32_130
  let v150 : BitVec 32 := Scalar.addi c0_i32_131 v149
  v150.toNat
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v158 : BitVec 32 := Scalar.addi v2 c1_i32_135
  let c2_i32_136 : BitVec 32 := 2#32
  let v159 : BitVec 32 := Scalar.addi v158 c2_i32_136
  let c8_i32_137 : BitVec 32 := 8#32
  let v160 : BitVec 32 := Scalar.remsi v159 c8_i32_137
  let c1_i32_145 : BitVec 32 := 1#32
  let v162 : BitVec 32 := Scalar.muli v160 c1_i32_145
  let v163 : BitVec 32 := Scalar.addi c0_i32_146 v162
  v163.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v158 : BitVec 32 := Scalar.addi v2 c1_i32_135
  let c2_i32_136 : BitVec 32 := 2#32
  let v159 : BitVec 32 := Scalar.addi v158 c2_i32_136
  let c8_i32_137 : BitVec 32 := 8#32
  let v160 : BitVec 32 := Scalar.remsi v159 c8_i32_137
  let c1_i32_157 : BitVec 32 := 1#32
  let v172 : BitVec 32 := Scalar.muli v160 c1_i32_157
  let v173 : BitVec 32 := Scalar.addi c0_i32_158 v172
  v173.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v181 : BitVec 32 := Scalar.addi v2 c1_i32_162
  let c3_i32_163 : BitVec 32 := 3#32
  let v182 : BitVec 32 := Scalar.addi v181 c3_i32_163
  let c8_i32_164 : BitVec 32 := 8#32
  let v183 : BitVec 32 := Scalar.remsi v182 c8_i32_164
  let c1_i32_172 : BitVec 32 := 1#32
  let v185 : BitVec 32 := Scalar.muli v183 c1_i32_172
  let v186 : BitVec 32 := Scalar.addi c0_i32_173 v185
  v186.toNat
def k0_dev15 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v181 : BitVec 32 := Scalar.addi v2 c1_i32_162
  let c3_i32_163 : BitVec 32 := 3#32
  let v182 : BitVec 32 := Scalar.addi v181 c3_i32_163
  let c8_i32_164 : BitVec 32 := 8#32
  let v183 : BitVec 32 := Scalar.remsi v182 c8_i32_164
  let c1_i32_184 : BitVec 32 := 1#32
  let v195 : BitVec 32 := Scalar.muli v183 c1_i32_184
  let v196 : BitVec 32 := Scalar.addi c0_i32_185 v195
  v196.toNat
def k0_dev16 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_189 : BitVec 32 := 1#32
  let v204 : BitVec 32 := Scalar.addi v2 c1_i32_189
  let c4_i32_190 : BitVec 32 := 4#32
  let v205 : BitVec 32 := Scalar.addi v204 c4_i32_190
  let c8_i32_191 : BitVec 32 := 8#32
  let v206 : BitVec 32 := Scalar.remsi v205 c8_i32_191
  let c1_i32_199 : BitVec 32 := 1#32
  let v208 : BitVec 32 := Scalar.muli v206 c1_i32_199
  let v209 : BitVec 32 := Scalar.addi c0_i32_200 v208
  v209.toNat
def k0_dev17 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_189 : BitVec 32 := 1#32
  let v204 : BitVec 32 := Scalar.addi v2 c1_i32_189
  let c4_i32_190 : BitVec 32 := 4#32
  let v205 : BitVec 32 := Scalar.addi v204 c4_i32_190
  let c8_i32_191 : BitVec 32 := 8#32
  let v206 : BitVec 32 := Scalar.remsi v205 c8_i32_191
  let c1_i32_211 : BitVec 32 := 1#32
  let v218 : BitVec 32 := Scalar.muli v206 c1_i32_211
  let v219 : BitVec 32 := Scalar.addi c0_i32_212 v218
  v219.toNat
def k0_dev18 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v227 : BitVec 32 := Scalar.addi v2 c1_i32_216
  let c5_i32_217 : BitVec 32 := 5#32
  let v228 : BitVec 32 := Scalar.addi v227 c5_i32_217
  let c8_i32_218 : BitVec 32 := 8#32
  let v229 : BitVec 32 := Scalar.remsi v228 c8_i32_218
  let c1_i32_226 : BitVec 32 := 1#32
  let v231 : BitVec 32 := Scalar.muli v229 c1_i32_226
  let v232 : BitVec 32 := Scalar.addi c0_i32_227 v231
  v232.toNat
def k0_dev19 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v227 : BitVec 32 := Scalar.addi v2 c1_i32_216
  let c5_i32_217 : BitVec 32 := 5#32
  let v228 : BitVec 32 := Scalar.addi v227 c5_i32_217
  let c8_i32_218 : BitVec 32 := 8#32
  let v229 : BitVec 32 := Scalar.remsi v228 c8_i32_218
  let c1_i32_238 : BitVec 32 := 1#32
  let v241 : BitVec 32 := Scalar.muli v229 c1_i32_238
  let v242 : BitVec 32 := Scalar.addi c0_i32_239 v241
  v242.toNat
def k0_dev20 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v250 : BitVec 32 := Scalar.addi v2 c1_i32_243
  let c6_i32_244 : BitVec 32 := 6#32
  let v251 : BitVec 32 := Scalar.addi v250 c6_i32_244
  let c8_i32_245 : BitVec 32 := 8#32
  let v252 : BitVec 32 := Scalar.remsi v251 c8_i32_245
  let c1_i32_253 : BitVec 32 := 1#32
  let v254 : BitVec 32 := Scalar.muli v252 c1_i32_253
  let v255 : BitVec 32 := Scalar.addi c0_i32_254 v254
  v255.toNat
def k0_dev21 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v250 : BitVec 32 := Scalar.addi v2 c1_i32_243
  let c6_i32_244 : BitVec 32 := 6#32
  let v251 : BitVec 32 := Scalar.addi v250 c6_i32_244
  let c8_i32_245 : BitVec 32 := 8#32
  let v252 : BitVec 32 := Scalar.remsi v251 c8_i32_245
  let c1_i32_265 : BitVec 32 := 1#32
  let v264 : BitVec 32 := Scalar.muli v252 c1_i32_265
  let v265 : BitVec 32 := Scalar.addi c0_i32_266 v264
  v265.toNat
def k0_cond2 (i : grid0.Coords) : BitVec 1 :=
  let arg0 : BitVec 32 := BitVec.ofNat 32 (i 0).val
  let c2_i32_21 : BitVec 32 := 2#32
  let v45 : BitVec 1 := Scalar.cmpi .sge arg0 c2_i32_21
  let v46 : BitVec 32 := Scalar.extui v45
  let c0_i32_22 : BitVec 32 := 0#32
  let v47 : BitVec 1 := Scalar.cmpi .ne v46 c0_i32_22
  v47

def k0_off6 (i : grid0.Coords) : Fin 2 → Nat :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg0 c2_i32_4
  let c0_i32_9 : BitVec 32 := 0#32
  let v26 : BitVec 1 := Scalar.cmpi .ne v25 c0_i32_9
  let v27 : BitVec 1 := Scalar.andi v24 v26
  let v13 : BitVec 32 := Scalar.divsi arg0 c2_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.addi v29 c8_i32_11
  let c1_i32_12 : BitVec 32 := 1#32
  let v31 : BitVec 32 := Scalar.subi v30 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  ![v41.toNat, v12.toNat]
def k0_off7 (i : grid0.Coords) : Fin 4 → Nat :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg0 c2_i32_4
  let c0_i32_9 : BitVec 32 := 0#32
  let v26 : BitVec 1 := Scalar.cmpi .ne v25 c0_i32_9
  let v27 : BitVec 1 := Scalar.andi v24 v26
  let v13 : BitVec 32 := Scalar.divsi arg0 c2_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.addi v29 c8_i32_11
  let c1_i32_12 : BitVec 32 := 1#32
  let v31 : BitVec 32 := Scalar.subi v30 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_35 : BitVec 32 := 0#32
  let c0_i32_36 : BitVec 32 := 0#32
  ![v41.toNat, v12.toNat, 0, 0]
def k0_off8 (i : grid0.Coords) : Fin 4 → Nat :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg0 c2_i32_4
  let c0_i32_9 : BitVec 32 := 0#32
  let v26 : BitVec 1 := Scalar.cmpi .ne v25 c0_i32_9
  let v27 : BitVec 1 := Scalar.andi v24 v26
  let v13 : BitVec 32 := Scalar.divsi arg0 c2_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.addi v29 c8_i32_11
  let c1_i32_12 : BitVec 32 := 1#32
  let v31 : BitVec 32 := Scalar.subi v30 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v50 : Index := Scalar.indexCast v41
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v51 : Index := Scalar.indexCast v12
  let c0_24 : Index := 0#32
  let c0_25 : Index := 0#32
  ![v50.toNat, v51.toNat, 0, 0]
def k0_cond5 (i : grid0.Coords) : BitVec 1 :=
  let arg0 : BitVec 32 := BitVec.ofNat 32 (i 0).val
  let c15_i32 : BitVec 32 := 15#32
  let v61 : BitVec 1 := Scalar.cmpi .eq arg0 c15_i32
  let v62 : BitVec 32 := Scalar.extui v61
  let c0_i32_30 : BitVec 32 := 0#32
  let v63 : BitVec 1 := Scalar.cmpi .ne v62 c0_i32_30
  v63

def k0_off9 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v69 : BitVec 32 := Scalar.addi v2 c1_i32_36
  let v70 : BitVec 32 := Scalar.addi v69 c0_i32_37
  let c8_i32_38 : BitVec 32 := 8#32
  let v71 : BitVec 32 := Scalar.remsi v70 c8_i32_38
  let c1024_i32 : BitVec 32 := 1024#32
  let v72 : BitVec 32 := Scalar.muli v71 c1024_i32
  let c0_i32_46 : BitVec 32 := 0#32
  ![v72.toNat, 0]
def k0_off10 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v69 : BitVec 32 := Scalar.addi v2 c1_i32_36
  let v70 : BitVec 32 := Scalar.addi v69 c0_i32_37
  let c8_i32_38 : BitVec 32 := 8#32
  let v71 : BitVec 32 := Scalar.remsi v70 c8_i32_38
  let c1024_i32_49 : BitVec 32 := 1024#32
  let v78 : BitVec 32 := Scalar.muli v71 c1024_i32_49
  let c512_i32 : BitVec 32 := 512#32
  ![v78.toNat, 512]
def k0_cond3 (i : grid0.Coords) : BitVec 1 :=
  let arg0 : BitVec 32 := BitVec.ofNat 32 (i 0).val
  let c0_i32_26 : BitVec 32 := 0#32
  let v55 : BitVec 1 := Scalar.cmpi .eq arg0 c0_i32_26
  let v56 : BitVec 32 := Scalar.extui v55
  let c0_i32_27 : BitVec 32 := 0#32
  let v57 : BitVec 1 := Scalar.cmpi .ne v56 c0_i32_27
  v57

def k0_cond4 (i : grid0.Coords) : BitVec 1 :=
  let arg0 : BitVec 32 := BitVec.ofNat 32 (i 0).val
  let c0_i32_28 : BitVec 32 := 0#32
  let v58 : BitVec 1 := Scalar.cmpi .sgt arg0 c0_i32_28
  let v59 : BitVec 32 := Scalar.extui v58
  let c0_i32_29 : BitVec 32 := 0#32
  let v60 : BitVec 1 := Scalar.cmpi .ne v59 c0_i32_29
  v60

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Talk.lean ====
/-
  The exchange protocol of the all-to-all matmul kernel: its cells, what each unit hands over, and what each device owes.

  Device `c` sends block `(c + 1 + i) mod 8` of its columns to device `(c + 1 + i) mod 8`, in two halves `s = 0, 1`, for
  `i = 0 .. 6`. Half `(i, s)` lands in slot `(i, s)` of the target's landing buffer. Slot 7 is filled by the device itself.

  * The barrier cell of `c` has seven duties of one unit. Duty `i` is paid by `c + 1 + i`, and hands `c` the slots `(i, 0)`
    and `(i, 1)` of that device, with the fact that its receive cells of those slots are at round 0.
  * The receive cell `(i, s)` of `c` is paid by the copy of `c - 1 - i`; it hands `c` its slot back, filled.
  * The send cell `(i, s)` of `c` is paid by its own copy; it hands the source rectangle back.
  * The local cell `s` of `c` is paid by its own copy into slot `(7, s)`; it hands the slot, filled, and the source back.
-/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Rounds
public import Idealize.ShloMosaic.Lib.Pipeline.RegionTalk
public import Idealize.ShloMosaic.Lib.Pipeline.Kit
public import Idealize.ShloMosaic.Lib.ReshapeSlab
public import Idealize.ShloMosaic.Lib.Ring.FamCut
public import Idealize.ShloMosaic.Lib.Tactic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's copy and the protocol's, whose duties are numbered 0 to 6 -/

abbrev UX : Type := Rounds.URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Devices around the ring -/

/-- The device `k + 1` places after `c`. -/
def tgt (c : Dev nD) (k : Fin 8) : Dev nD := ⟨(c.val + 1 + k.val) % 8, Nat.mod_lt _ (by decide)⟩
/-- The device `k + 1` places before `c`. -/
def frm (c : Dev nD) (k : Fin 8) : Dev nD := ⟨(c.val + 7 - k.val) % 8, Nat.mod_lt _ (by decide)⟩
theorem tgt_frm (c : Dev nD) (k : Fin 8) : tgt (frm c k) k = c := by revert c k; decide
theorem frm_tgt (c : Dev nD) (k : Fin 8) : frm (tgt c k) k = c := by revert c k; decide
theorem tgt_last (c : Dev nD) : tgt c 7 = c := by revert c; decide
theorem tgt_rev (c : Dev nD) (i : Fin 7) : tgt (tgt c i.castSucc) i.rev.castSucc = c := by revert c i; decide
def shift (k : Fin 8) : Dev nD ≃ Dev nD := ⟨fun c => tgt c k, fun c => frm c k, fun c => frm_tgt c k, fun c => tgt_frm c k⟩

/-! ## Semaphores and cells -/

abbrev barS : Sem sig := sig.barrier 0 rfl
/-- The kernel's own thirty DMA semaphores: send, receive, local. -/
abbrev ownS (k : Fin 30) : DmaSem sig := ⟨3 + k.val, by have := k.isLt; show 3 + k.val < 33; omega⟩
def sendK (i : Fin 7) (s : Fin 2) : Fin 30 := ⟨2 * i.val + s.val, by omega⟩
def recvK (i : Fin 7) (s : Fin 2) : Fin 30 := ⟨14 + 2 * i.val + s.val, by omega⟩
def localK (s : Fin 2) : Fin 30 := ⟨28 + s.val, by omega⟩
abbrev sendS (i : Fin 7) (s : Fin 2) : DmaSem sig := ownS (sendK i s)
abbrev recvS (i : Fin 7) (s : Fin 2) : DmaSem sig := ownS (recvK i s)
abbrev localS (s : Fin 2) : DmaSem sig := ownS (localK s)

abbrev barCell (c : Dev nD) : GSem nD τ sig := ((c : Thread nD τ), .reg barS)
abbrev ownCell (c : Dev nD) (k : Fin 30) : GSem nD τ sig := ((c : Thread nD τ), .dma (ownS k))
abbrev sendCell (c : Dev nD) (i : Fin 7) (s : Fin 2) : GSem nD τ sig := ownCell c (sendK i s)
abbrev recvCell (c : Dev nD) (i : Fin 7) (s : Fin 2) : GSem nD τ sig := ownCell c (recvK i s)
abbrev localCell (c : Dev nD) (s : Fin 2) : GSem nD τ sig := ownCell c (localK s)
abbrev osem : Fin 30 → SemLoc sig := fun k => .dma (ownS k)

/-! ## Views -/

abbrev xM : Memref sig .tc .hbm S8192x1024 .bf16 := Memref.whole main_arg0
abbrev gM : Memref sig .tc .vmem S8x2x1024x512 .bf16 := Memref.whole cc0_scratch0

def srcOff (d : Dev nD) (s : Fin 2) : Fin 2 → Nat := ![d.val * 1024, s.val * 512]
theorem srcInb (d : Dev nD) (s : Fin 2) : ∀ a, srcOff d s a + S1024x512.size a ≤ S8192x1024.size a := by
  have hd : d.val < 8 := d.isLt
  have := s.isLt
  intro a; fin_cases a <;> simp [srcOff] <;> omega
def slotOff (k : Fin 8) (s : Fin 2) : Fin 4 → Nat := ![k.val, s.val, 0, 0]
theorem slotInb (k : Fin 8) (s : Fin 2) : ∀ a, slotOff k s a + S1x1x1024x512.size a ≤ S8x2x1024x512.size a := by
  have := k.isLt; have := s.isLt
  intro a; fin_cases a <;> simp [slotOff] <;> omega

/-- Rows of device `d`, half `s` of the columns. -/
abbrev srcR (d : Dev nD) (s : Fin 2) : Rect S8192x1024 := Rect.unit (s := S8192x1024) (srcOff d s) S1024x512.size (srcInb d s)
abbrev slotR (k : Fin 8) (s : Fin 2) : Rect S8x2x1024x512 := Rect.unit (s := S8x2x1024x512) (slotOff k s) S1x1x1024x512.size (slotInb k s)
abbrev srcM (d : Dev nD) (s : Fin 2) : Memref sig .tc .hbm S1024x512 .bf16 := xM.slice (srcR d s) (fun _ => rfl)
abbrev slotM (k : Fin 8) (s : Fin 2) : Memref sig .tc .vmem S1024x512 .bf16 :=
  (gM.slice (slotR k s) (fun _ => rfl)).squeeze S1024x512 squeezes_S1x1x1024x512_S1024x512

/-- The credit of one half block. -/
abbrev N : ℕ := (slotM 0 0).view.dmaCredit
theorem N_pos : 0 < N := View.dmaCredit_pos _ (by decide)

variable (m : (ℓ : Loc nD τ sig) → Buf (Elt F) ℓ)

/-- What `x` holds on device `c`. -/
abbrev xIn (c : Dev nD) : Buf (Elt F) ((c : Thread nD τ).loc main_arg0) := m ((c : Thread nD τ).loc main_arg0)

/-- The half block `(k, s)` device `c` starts from: device `frm c k`'s rows `c`. -/
def got (c : Dev nD) (k : Fin 8) (s : Fin 2) : S1024x512.Idx → Elt F .bf16 :=
  (srcM c s).view.read (Elt F) (xIn m (frm c k))

/-- The rectangle `(tgt c k, s)` of `x` on device `c`, the source of slot `(k, s)` of device `tgt c k`. -/
def xPc (c : Dev nD) (k : Fin 8) (s : Fin 2) : sProp 𝕄 :=
  (srcM (tgt c k) s).view.loc (c : Thread nD τ) ↦[(srcM (tgt c k) s).view.set]{fullShare} xIn m c
/-- Slot `(k, s)` of device `c`, where the buffer holds `f`; -/
def slotPts (c : Dev nD) (k : Fin 8) (s : Fin 2) (f : Buf (Elt F) ((slotM k s).view.loc (c : Thread nD τ))) : sProp 𝕄 :=
  (slotM k s).view.loc (c : Thread nD τ) ↦[(slotM k s).view.set]{fullShare} f
/-- at contents not chosen. -/
def slotAny (c : Dev nD) (k : Fin 8) (s : Fin 2) : sProp 𝕄 := iprop(∃ f, slotPts c k s f)
/-- Slot `(k, s)` of device `c`, filled. -/
def slotGot (c : Dev nD) (k : Fin 8) (s : Fin 2) : sProp 𝕄 := owns (c : Thread nD τ) (slotM k s) fullShare (got m c k s)

instance xPc_storable (c : Dev nD) (k : Fin 8) (s : Fin 2) : BI.Storable (upEmb : UEmb _ 𝕄) (xPc m c k s) := by unfold xPc; infer_instance
instance slotPts_storable (c : Dev nD) (k : Fin 8) (s : Fin 2) (f) : BI.Storable (upEmb : UEmb _ 𝕄) (slotPts (F := F) c k s f) := by unfold slotPts; infer_instance
instance slotAny_storable (c : Dev nD) (k : Fin 8) (s : Fin 2) : BI.Storable (upEmb : UEmb _ 𝕄) (slotAny (F := F) c k s) := by unfold slotAny; infer_instance
instance slotGot_storable (c : Dev nD) (k : Fin 8) (s : Fin 2) : BI.Storable (upEmb : UEmb _ 𝕄) (slotGot m c k s) := by unfold slotGot; infer_instance

/-! ## The schedule -/

/-- Duty `i` of `c`'s barrier cell: the two slots `c` writes at its copy `i`. -/
def barPay (c : Dev nD) (i : Fin 7) : sProp 𝕄 :=
  iprop((slotAny (tgt c i.castSucc) i.castSucc 0 ∗ reached ER (recvCell (tgt c i.castSucc) i 0) 0)
    ∗ (slotAny (tgt c i.castSucc) i.castSucc 1 ∗ reached ER (recvCell (tgt c i.castSucc) i 1) 0))

/-- What the own semaphore `k` of device `c` hands over. -/
def ownPay (c : Dev nD) (k : ℕ) : sProp 𝕄 :=
  if h : k < 14 then xPc m c ⟨k / 2, by omega⟩ ⟨k % 2, by omega⟩
  else if h : k < 28 then slotGot m c ⟨(k - 14) / 2, by omega⟩ ⟨k % 2, by omega⟩
  else iprop(slotGot m c 7 ⟨k % 2, by omega⟩ ∗ xPc m c 7 ⟨k % 2, by omega⟩)

/-- The cells of the protocol. -/
def IsCell (g : GSem nD τ sig) : Prop := g.1.2 = .tc ∧ match g.2 with
  | .reg b => b = barS
  | .dma k => 3 ≤ k.val

instance (g : GSem nD τ sig) : Decidable (IsCell g) := by unfold IsCell; rcases g with ⟨t, (b | k)⟩ <;> dsimp only <;> infer_instance

def rd : Rounds.Schedule (GSem nD τ sig) (Fin 7) 𝕄 where
  duties g r := if r = 0 ∧ IsCell g then (match g.2 with | .reg _ => Finset.univ | .dma _ => {0}) else ∅
  unitless _ := False
  amount g _ _ := match g.2 with | .reg _ => 1 | .dma _ => N
  payload g _ d := match g.2 with | .reg _ => barPay g.1.1 d | .dma k => ownPay m g.1.1 (k.val - 3)
  amount_pos g _ _ _ := by
    rcases g with ⟨t, (b | k)⟩
    · exact Nat.one_pos
    · exact N_pos

instance rd_storable (g : GSem nD τ sig) (r : ℕ) (d : Fin 7) : BI.Storable (upEmb : UEmb _ 𝕄) ((rd m).payload g r d) := by
  rcases g with ⟨t, (b | k)⟩
  · show BI.Storable upEmb (barPay t.1 d); unfold barPay; infer_instance
  · show BI.Storable upEmb (ownPay m t.1 (k.val - 3)); unfold ownPay
    (repeat' split) <;> infer_instance

section Sched

variable (c : Dev nD)

theorem isCell_bar : IsCell (barCell c) := ⟨rfl, rfl⟩
theorem isCell_own (k : Fin 30) : IsCell (ownCell c k) := ⟨rfl, Nat.le_add_right _ _⟩

theorem duties_bar : (rd m).duties (barCell c) 0 = Finset.univ := by
  dsimp only [rd]; exact if_pos ⟨rfl, isCell_bar c⟩
theorem duties_own (k : Fin 30) : (rd m).duties (ownCell c k) 0 = {0} := by
  dsimp only [rd]; exact if_pos ⟨rfl, isCell_own c k⟩
theorem duties_later (g : GSem nD τ sig) : ∀ r, 1 ≤ r → (rd m).duties g r = ∅ := fun r hr => by
  dsimp only [rd]; exact if_neg (fun h => by omega)
theorem amount_bar (d : Fin 7) : (rd m).amount (barCell c) 0 d = 1 := rfl
theorem amount_own (k : Fin 30) (d : Fin 7) : (rd m).amount (ownCell c k) 0 d = N := rfl
theorem expect_bar : (rd m).expect (barCell c) 0 = 7 := by
  unfold Schedule.expect Schedule.amountOf; rw [duties_bar, Finset.sum_congr rfl fun d _ => amount_bar m c d]; rfl
theorem expect_own (k : Fin 30) : (rd m).expect (ownCell c k) 0 = N := by
  unfold Schedule.expect Schedule.amountOf; rw [duties_own, Finset.sum_singleton, amount_own]
theorem payload_bar (d : Fin 7) : (rd m).payload (barCell c) 0 d = barPay c d := rfl
theorem payload_own (k : Fin 30) (d : Fin 7) : (rd m).payload (ownCell c k) 0 d = ownPay m c k.val := by
  show ownPay m c (3 + k.val - 3) = _; rw [Nat.add_sub_cancel_left]
theorem payload_send (i : Fin 7) (s : Fin 2) (d : Fin 7) : (rd m).payload (sendCell c i s) 0 d = xPc m c i.castSucc s := by
  rw [payload_own]; fin_cases i <;> fin_cases s <;> rfl
theorem payload_recv (i : Fin 7) (s : Fin 2) (d : Fin 7) : (rd m).payload (recvCell c i s) 0 d = slotGot m c i.castSucc s := by
  rw [payload_own]; fin_cases i <;> fin_cases s <;> rfl
theorem payload_local (s : Fin 2) (d : Fin 7) : (rd m).payload (localCell c s) 0 d = iprop(slotGot m c 7 s ∗ xPc m c 7 s) := by
  rw [payload_own]; fin_cases s <;> rfl
theorem rest_bar : bigSep ((rd m).duties (barCell c) 0 \ ∅) (fun d => (rd m).payload (barCell c) 0 d) = bigSep Finset.univ (fun i => barPay (F := F) c i) := by
  rw [Finset.sdiff_empty, duties_bar]; rfl
theorem rest_send (i : Fin 7) (s : Fin 2) : bigSep ((rd m).duties (sendCell c i s) 0 \ ∅) (fun d => (rd m).payload (sendCell c i s) 0 d) = xPc m c i.castSucc s := by
  rw [Finset.sdiff_empty, duties_own, bigSep_singleton, payload_send]
theorem rest_recv (i : Fin 7) (s : Fin 2) : bigSep ((rd m).duties (recvCell c i s) 0 \ ∅) (fun d => (rd m).payload (recvCell c i s) 0 d) = slotGot m c i.castSucc s := by
  rw [Finset.sdiff_empty, duties_own, bigSep_singleton, payload_recv]
theorem rest_local (s : Fin 2) : bigSep ((rd m).duties (localCell c s) 0 \ ∅) (fun d => (rd m).payload (localCell c s) 0 d) = iprop(slotGot m c 7 s ∗ xPc m c 7 s) := by
  rw [Finset.sdiff_empty, duties_own, bigSep_singleton, payload_local]

end Sched

/-! ## Lists of pieces, in the order the kernel takes them -/

/-- `Φ` at each entry of a list, in order. -/
def each {I : Type} : List I → (I → sProp 𝕄) → sProp 𝕄
  | [], _ => iprop(emp)
  | i :: l, Φ => iprop(Φ i ∗ each l Φ)

omit [FloatOps F] in
theorem each_snoc {I : Type} (l : List I) (i : I) (Φ : I → sProp 𝕄) : iprop(each l Φ ∗ Φ i) ⊢ each (l ++ [i]) Φ := by
  induction l with
  | nil =>
    show iprop(emp ∗ Φ i) ⊢ iprop(Φ i ∗ emp)
    iintro ⟨-, H⟩
    isplitl [H]; · iexact H
    iempintro
  | cons j l ih =>
    show iprop((Φ j ∗ each l Φ) ∗ Φ i) ⊢ iprop(Φ j ∗ each (l ++ [i]) Φ)
    iintro ⟨⟨Hj, Hl⟩, Hi⟩
    isplitl [Hj]; · iexact Hj
    iapply ih; isplitl [Hl] <;> iassumption

omit [FloatOps F] in
theorem each_eq {I : Type} [DecidableEq I] (l : List I) (hl : l.Nodup) (Φ : I → sProp 𝕄) : each l Φ = bigSep l.toFinset Φ := by
  induction l with
  | nil => rw [List.toFinset_nil, bigSep_empty]; rfl
  | cons j l ih =>
    rw [List.nodup_cons] at hl
    rw [List.toFinset_cons, bigSep_insert (by rw [List.mem_toFinset]; exact hl.1), ← ih hl.2]; rfl
omit [FloatOps F] in
theorem each_univ {I : Type} [Fintype I] [DecidableEq I] (l : List I) (hl : l.Nodup) (h : Finset.univ = l.toFinset) (Φ : I → sProp 𝕄) :
    bigSep Finset.univ Φ = each l Φ := by rw [each_eq l hl, h]

abbrev P : Type := Fin 7 × Fin 2
abbrev sigs : List (Fin 7) := [0, 1, 2, 3, 4, 5, 6]
abbrev cps : List P := [(0, 0), (0, 1), (1, 0), (1, 1), (2, 0), (2, 1), (3, 0), (3, 1), (4, 0), (4, 1), (5, 0), (5, 1), (6, 0), (6, 1)]

/-! ## What each core owes, and the levels -/

/-- A payment due: to which neighbour, on which semaphore, how much. -/
abbrev Due : Type := Fin 8 × SemLoc sig × ℕ
def owing (c : Dev nD) : List Due → CellTallies nD τ sig Unit
  | [] => 0
  | x :: l => owing c l + tallyAt ((tgt c x.1 : Thread nD τ), x.2.1) () x.2.2
abbrev sigDue (i : Fin 7) : Due := (i.castSucc, .reg barS, 1)
abbrev cpDue (p : P) : Due := (p.1.castSucc, .dma (recvS p.1 p.2), N)
abbrev dues : List Due := sigs.map sigDue ++ cps.map cpDue
abbrev O₀ (c : Dev nD) : CellTallies nD τ sig Unit := owing c dues

theorem owing_pos (c : Dev nD) (l : List Due) (g : GSem nD τ sig) (u : Unit) (h : 0 < owing c l g u) :
    ∃ x ∈ l, g = ((tgt c x.1 : Thread nD τ), x.2.1) := by
  induction l with
  | nil => exact absurd h (Nat.lt_irrefl 0)
  | cons x l ih =>
    have h' : 0 < owing c l g u + tallyAt ((tgt c x.1 : Thread nD τ), x.2.1) () x.2.2 g u := h
    rw [tallyAt_apply] at h'
    by_cases hx : g = ((tgt c x.1 : Thread nD τ), x.2.1) ∧ u = ()
    · exact ⟨x, List.mem_cons_self, hx.1⟩
    · rw [if_neg hx] at h'
      obtain ⟨y, hy, e⟩ := ih h'
      exact ⟨y, List.mem_cons_of_mem _ hy, e⟩

def L (g : GSem nD τ sig) : Finset Unit := if g.1.2 = .tc then {()} else ∅
/-- Barrier cells at 1, receive cells at 2, the rest at 0. -/
def lv (g : GSem nD τ sig) (_ : Unit) : ℕ := match g.2 with
  | .reg _ => 1
  | .dma k => if 17 ≤ k.val ∧ k.val < 31 then 2 else 0

theorem L_of_ne (g : GSem nD τ sig) (h : g.1.2 ≠ .tc) : L g = ∅ := if_neg h
theorem L_tc (c : Dev nD) (sm : SemLoc sig) : L ((c : Thread nD τ), sm) = {()} := if_pos rfl

theorem owing_L (c : Dev nD) (l : List Due) (g : GSem nD τ sig) (u : Unit) (h : 0 < owing c l g u) : u ∈ L g := by
  obtain ⟨x, -, rfl⟩ := owing_pos c l g u h; rw [L_tc]; exact Finset.mem_singleton_self _

/-- A wait on a cell of level at most `b` goes through while every due is of a level above `b`. -/
theorem mayWait (c : Dev nD) (sm : SemLoc sig) (l : List Due) (b : ℕ) (hb : lv ((c : Thread nD τ), sm) () ≤ b)
    (h : ∀ x ∈ l, b < lv (((0 : Dev nD) : Thread nD τ), x.2.1) ()) :
    (levAts L lv : sProp 𝕄) ⊢ MayWait (c : Thread nD τ) sm () (owing c l) :=
  MayOwe.of_cut (L := L) (lev := lv) b (fun p hp => by rw [Finset.mem_singleton.mp hp, L_tc]; exact Finset.mem_singleton_self _)
    (owing_L c l) (fun p hp => by rw [Finset.mem_singleton.mp hp]; exact hb)
    (fun g u hg => by obtain ⟨x, hx, rfl⟩ := owing_pos c l g u hg; exact h x hx)

end Cert.KernelIdeal.Talk

end
-- ==== Proof.Steps.lean ====
/-
  One step of the exchange at a time: a signal, the barrier wait, a remote copy, a local copy, a wait on an own DMA cell.
  Each is stated at a symbolic device, with the printed offsets, devices and semaphores as equations.
-/
module

public import proofs.«01_k».proof.Proof.Talk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (m : (ℓ : Loc nD τ sig) → Buf (Elt F) ℓ) (K : GSem nD τ sig → ℕ)

/-! ## What every device knows: the invariants of all cells, and that every barrier cell is at round 0 -/

def records : sProp 𝕄 :=
  iprop((bigSep Finset.univ fun c : Dev nD => cellInv ER (rd m) (K (barCell c)) (barCell c))
    ∗ (bigSep Finset.univ fun ck : Dev nD × Fin 30 => cellInv ER (rd m) (K (ownCell ck.1 ck.2)) (ownCell ck.1 ck.2))
    ∗ (bigSep Finset.univ fun c : Dev nD => reached ER (barCell c) 0)
    ∗ levAts L lv)

instance records_persistent : BI.Persistent (records m K) := by unfold records; infer_instance

theorem inv_bar (c : Dev nD) : records m K ⊢ cellInv ER (rd m) (K (barCell c)) (barCell c) := by
  unfold records; iintro ⟨#H, -, -, -⟩; iapply (show _ ⊢ _ from bigSep_elim (Φ := fun c : Dev nD => cellInv ER (rd m) (K (barCell c)) (barCell c)) (Finset.mem_univ c)); iexact H
theorem inv_own (c : Dev nD) (k : Fin 30) : records m K ⊢ cellInv ER (rd m) (K (ownCell c k)) (ownCell c k) := by
  unfold records; iintro ⟨-, #H, -, -⟩
  iapply (show _ ⊢ _ from bigSep_elim (Φ := fun ck : Dev nD × Fin 30 => cellInv ER (rd m) (K (ownCell ck.1 ck.2)) (ownCell ck.1 ck.2)) (Finset.mem_univ (c, k))); iexact H
theorem reached_bar (c : Dev nD) : records m K ⊢ reached ER (barCell c) 0 := by
  unfold records; iintro ⟨-, -, #H, -⟩; iapply (show _ ⊢ _ from bigSep_elim (Φ := fun c : Dev nD => reached ER (barCell c) 0) (Finset.mem_univ c)); iexact H
theorem records_lev : records m K ⊢ (levAts L lv : sProp 𝕄) := by
  unfold records; iintro ⟨-, -, -, #H⟩; iexact H

theorem close (g : GSem nD τ sig) :
    iprop(cellInv ER (rd m) (K g) g ∗ atPos ER g (0 + 1) ∅ 0) ⊢ (|={Set.univ}=> semVal g 0 : sProp 𝕄) :=
  Rounds.cell_close ER (rd m) (Set.mem_univ _) id (duties_later m g)

/-- Device `c` owes `O`, whatever it has waited on. -/
def owesE (c : Dev nD) (O : CellTallies nD τ sig Unit) : sProp 𝕄 := iprop(∃ W, owes (c : Thread nD τ) O W)

/-! ## The barrier -/

/-- What the signal `i` of device `c` hands over, with the right to hand it. -/
def sigRes (c : Dev nD) (i : Fin 7) : sProp 𝕄 :=
  iprop(dutyTok ER (barCell (tgt c i.castSucc)) 0 i.rev
    ∗ (slotAny c i.rev.castSucc 0 ∗ reached ER (recvCell c i.rev 0) 0)
    ∗ (slotAny c i.rev.castSucc 1 ∗ reached ER (recvCell c i.rev 1) 0))

theorem sig_pay (c : Dev nD) (i : Fin 7) :
    (barPay (tgt c i.castSucc) i.rev : sProp 𝕄)
      = iprop((slotAny c i.rev.castSucc 0 ∗ reached ER (recvCell c i.rev 0) 0)
        ∗ (slotAny c i.rev.castSucc 1 ∗ reached ER (recvCell c i.rev 1) 0)) := by
  unfold barPay; rw [tgt_rev]

theorem sig_step (c : Dev nD) (i : Fin 7) (l : List (Fin 7)) (l' : List Due) (n : Dev nD) (hn : n = tgt c i.castSucc)
    (b : Sem sig) (hb : b = barS) (a : Int) (ha : a = 1)
    {α : Type} {Q : α → sProp 𝕄} {k : PUnit → Prog (TpuEff nD τ sig (Elt F) Λ₀ .tc) α} :
    iprop(records m K ∗ each (i :: l) (sigRes c) ∗ owesE c (owing c ((i :: l).map sigDue ++ l')))
      ⊢ iprop(((each l (sigRes c) ∗ owesE c (owing c (l.map sigDue ++ l')))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) b a) k) Q) := by
  subst hn hb ha
  show iprop(records m K ∗ (sigRes c i ∗ each l (sigRes c)) ∗ owesE c (owing c (sigDue i :: (l.map sigDue ++ l')))) ⊢ _
  unfold owesE
  iintro ⟨#HR, ⟨Hs, Hl⟩, ⟨%W, HO⟩⟩ Hk
  unfold sigRes
  icases Hs with ⟨Ht, Hp⟩
  iapply (Rounds.wp_signal 𝒱₀ ER (rd m) (c : Thread nD τ) none (dst := (tgt c i.castSucc : Thread nD τ)) (sem := barS) (r := 0) (d := i.rev)
      (k' := 1) (κ := K (barCell (tgt c i.castSucc))) (by rw [duties_bar]; exact Finset.mem_univ _) (amount_bar m _ _) ()
      (owing c (l.map sigDue ++ l')) rfl) $$ [HO Ht Hp]
  · isplitr; · iapply (inv_bar m K); iexact HR
    isplitl [HO]; · iexact HO
    isplitl [Ht]; · iexact Ht
    isplitl [Hp]
    · rw [payload_bar, sig_pay]; iexact Hp
    · iapply (reached_bar m K); iexact HR
  iintro HO
  iapply Hk
  isplitl [Hl]; · iexact Hl
  iexists W; iexact HO

/-- The barrier wait: every peer's slots of this device. The barrier's counter comes back at zero. -/
theorem bar_step (c : Dev nD) (l : List Due) (h : ∀ x ∈ l, 1 < lv (((0 : Dev nD) : Thread nD τ), x.2.1) ())
    (b : Sem sig) (hb : b = barS) (a : Int) (ha : a = 7)
    {α : Type} {Q : α → sProp 𝕄} {k : PUnit → Prog (TpuEff nD τ sig (Elt F) Λ₀ .tc) α} :
    iprop(records m K ∗ atPos ER (barCell c) 0 ∅ 0 ∗ cred (tallyAt (barCell c) () 7) ∗ owesE c (owing c l))
      ⊢ iprop(((semVal (barCell c) 0 ∗ bigSep Finset.univ (fun i => barPay (F := F) c i) ∗ owesE c (owing c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait b a) k) Q) := by
  subst hb ha
  unfold owesE
  iintro ⟨#HR, Hat, Hc, ⟨%W, HO⟩⟩ Hk
  iapply (Rounds.wp_wait_rest_token 𝒱₀ ER (rd m) (c : Thread nD τ) none (κ := K (barCell c))
      (wpE_semWait_eq (k := 7) 𝒱₀ (c : Thread nD τ) none Set.univ) (Set.mem_univ _) () (O := owing c l) (W := W) (R := 0) (m := 0) (T := ∅)
      ((Nat.zero_add 7).trans (expect_bar m c).symm)) $$ [Hat Hc HO]
  · isplitr; · iapply (inv_bar m K); iexact HR
    isplitl [Hc]; · iexact Hc
    isplitl [HO]; · iexact HO
    isplitr
    · iapply (mayWait c (.reg barS) l 1 le_rfl h); iapply (records_lev m K); iexact HR
    iexact Hat
  iintro ⟨HO, Hat, -, Hp⟩
  imod (close m K (barCell c)) $$ [Hat] with Hz
  · isplitr; · iapply (inv_bar m K); iexact HR
    iexact Hat
  ihave Hp := (Entails.of_eq (rest_bar m c)) $$ Hp
  iapply Hk
  isplitl [Hz]; · iexact Hz
  isplitl [Hp]; · iexact Hp
  iexists _; iexact HO

/-! ## The copies -/

/-- What the copy `p` of device `c` takes. -/
def todo (c : Dev nD) (p : P) : sProp 𝕄 :=
  iprop(xPc m c p.1.castSucc p.2 ∗ slotAny (tgt c p.1.castSucc) p.1.castSucc p.2
    ∗ dutyTok ER (sendCell c p.1 p.2) 0 0 ∗ reached ER (sendCell c p.1 p.2) 0
    ∗ dutyTok ER (recvCell (tgt c p.1.castSucc) p.1 p.2) 0 0 ∗ reached ER (recvCell (tgt c p.1.castSucc) p.1 p.2) 0)
/-- What it leaves: the credit to wait for its end. -/
def sent (c : Dev nD) (p : P) : sProp 𝕄 := cred (tallyAt (sendCell c p.1 p.2) () N)

theorem landed (c : Dev nD) (k : Fin 8) (s : Fin 2) (fd : Buf (Elt F) ((slotM k s).view.loc (tgt c k : Thread nD τ))) :
    ((slotM k s).view.loc (tgt c k : Thread nD τ) ↦[(slotM k s).view.set]{fullShare}
        (slotM k s).view.write (Elt F) fd ((srcM (tgt c k) s).view.read (Elt F) (xIn m c)) Finset.univ : sProp 𝕄)
      ⊢ slotGot m (tgt c k) k s := by
  unfold slotGot owns got
  iintro H
  iexists (slotM k s).view.write (Elt F) fd ((srcM (tgt c k) s).view.read (Elt F) (xIn m c)) Finset.univ
  isplitr
  · ipureintro; rw [View.read_write_univ, frm_tgt]
  iexact H

theorem copy_step (c : Dev nD) (p : P) (done l : List P) (n : Dev nD) (hn : n = tgt c p.1.castSucc)
    {off : Fin 2 → ℕ} (hoff : off = srcOff (tgt c p.1.castSucc) p.2)
    {hin : ∀ a, off a + S1024x512.size a ≤ S8192x1024.size a} {hst : ∀ a, (Rect.unit (s := S8192x1024) off S1024x512.size hin).stride a = 1}
    {off' : Fin 4 → ℕ} (hoff' : off' = slotOff p.1.castSucc p.2)
    {hin' : ∀ a, off' a + S1x1x1024x512.size a ≤ S8x2x1024x512.size a}
    {hst' : ∀ a, (Rect.unit (s := S8x2x1024x512) off' S1x1x1024x512.size hin').stride a = 1}
    {hsq : (Rect.unit (s := S8x2x1024x512) off' S1x1x1024x512.size hin').shape.Squeezes S1024x512}
    {sS sD : DmaSem sig} (hsS : sS = sendS p.1 p.2) (hsD : sD = recvS p.1 p.2)
    {hsc : (((gM.slice (Rect.unit (s := S8x2x1024x512) off' S1x1x1024x512.size hin') hst').squeeze S1024x512 hsq :
        Memref sig (Dev.tc n : Thread nD τ).2.kind .vmem S1024x512 .bf16)).view.ref.isScScratch = false}
    {hsrc : (xM.slice (Rect.unit (s := S8192x1024) off S1024x512.size hin) hst).view.WordExact}
    {hdst : ((gM.slice (Rect.unit (s := S8x2x1024x512) off' S1x1x1024x512.size hin') hst').squeeze S1024x512 hsq).view.WordExact}
    {hsem : DmaTarget.Typed .hbm (.dma sD) (.remote (Dev.tc n : Thread nD τ)
      (((gM.slice (Rect.unit (s := S8x2x1024x512) off' S1x1x1024x512.size hin') hst').squeeze S1024x512 hsq :
        Memref sig (Dev.tc n : Thread nD τ).2.kind .vmem S1024x512 .bf16)) (.dma sS) hsc)}
    {α : Type} {Q : α → sProp 𝕄} {k : PUnit → Prog (TpuEff nD τ sig (Elt F) Λ₀ .tc) α} :
    iprop(records m K ∗ each done (sent c) ∗ each (p :: l) (todo m c) ∗ owesE c (owing c ((p :: l).map cpDue)))
      ⊢ iprop(((each (done ++ [p]) (sent c) ∗ each l (todo m c) ∗ owesE c (owing c (l.map cpDue)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S8192x1024) off S1024x512.size hin) hst)
                (.remote (Dev.tc n : Thread nD τ) ((gM.slice (Rect.unit (s := S8x2x1024x512) off' S1x1x1024x512.size hin') hst').squeeze S1024x512 hsq) (.dma sS) hsc)
                (.dma sD) hsrc hdst hsem) k) Q) := by
  subst hn hoff hoff' hsS hsD
  show iprop(records m K ∗ each done (sent c) ∗ (todo m c p ∗ each l (todo m c)) ∗ owesE c (owing c (cpDue p :: l.map cpDue))) ⊢ _
  unfold owesE
  iintro ⟨#HR, Hd, ⟨Ht, Hl⟩, ⟨%W, HO⟩⟩ Hk
  unfold todo slotAny slotPts xPc
  icases Ht with ⟨Hx, ⟨%fd, Hs⟩, Ht1, #Hr1, Ht2, #Hr2⟩
  iapply (Rounds.wp_send_pointsTo 𝒱₀ ER (rd m) (c : Thread nD τ) none (c' := (tgt c p.1.castSucc : Thread nD τ)) (src := srcM (tgt c p.1.castSucc) p.2)
      (dst := slotM p.1.castSucc p.2) (sS := .dma (sendS p.1 p.2)) (sem := .dma (recvS p.1 p.2)) (q := fullShare) (fs := xIn m c)
      (κ₁ := K (sendCell c p.1 p.2)) (κ₂ := K (recvCell (tgt c p.1.castSucc) p.1 p.2)) (r₁ := 0) (r₂ := 0) (d₁ := 0) (d₂ := 0) (fd := fd)
      (by rw [duties_own]; exact Finset.mem_singleton_self _) (by rw [duties_own]; exact Finset.mem_singleton_self _)
      () () N rfl (amount_own m c _ 0) (amount_own m _ _ 0) (owing c (l.map cpDue)) rfl (W := W)
      (by rw [payload_send]; unfold xPc; exact BI.Entails.refl _)
      (by rw [payload_recv]; exact landed m c _ _ fd)) $$ [Hx Hs HO Ht1 Ht2]
  · isplitr; · iapply (inv_own m K c (sendK p.1 p.2)); iexact HR
    isplitr; · iapply (inv_own m K (tgt c p.1.castSucc) (recvK p.1 p.2)); iexact HR
    isplitl [Hx]; · iexact Hx
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk
  isplitl [Hd Hc]
  · iapply (each_snoc done p (sent c)); isplitl [Hd]; · iexact Hd
    unfold sent; iexact Hc
  isplitl [Hl]; · iexact Hl
  iexists W; iexact HO

/-- What the local copy `s` of device `c` takes. -/
def ltodo (c : Dev nD) (s : Fin 2) : sProp 𝕄 :=
  iprop(xPc m c 7 s ∗ slotAny c 7 s ∗ dutyTok ER (localCell c s) 0 0 ∗ reached ER (localCell c s) 0)

theorem local_step (c : Dev nD) (s : Fin 2)
    {off : Fin 2 → ℕ} (hoff : off = srcOff (tgt c 7) s)
    {hin : ∀ a, off a + S1024x512.size a ≤ S8192x1024.size a} {hst : ∀ a, (Rect.unit (s := S8192x1024) off S1024x512.size hin).stride a = 1}
    {off' : Fin 4 → ℕ} (hoff' : off' = slotOff 7 s)
    {hin' : ∀ a, off' a + S1x1x1024x512.size a ≤ S8x2x1024x512.size a}
    {hst' : ∀ a, (Rect.unit (s := S8x2x1024x512) off' S1x1x1024x512.size hin').stride a = 1}
    {hsq : (Rect.unit (s := S8x2x1024x512) off' S1x1x1024x512.size hin').shape.Squeezes S1024x512}
    {sD : DmaSem sig} (hsD : sD = localS s)
    {hsrc : (xM.slice (Rect.unit (s := S8192x1024) off S1024x512.size hin) hst).view.WordExact}
    {hdst : ((gM.slice (Rect.unit (s := S8x2x1024x512) off' S1x1x1024x512.size hin') hst').squeeze S1024x512 hsq).view.WordExact}
    {hsem : DmaTarget.Typed (nD := nD) (τ := τ) .hbm (.dma sD) (DmaTarget.here (p := .tc) ((((gM.slice (Rect.unit (s := S8x2x1024x512) off' S1x1x1024x512.size hin') hst').squeeze S1024x512 hsq) : Memref sig (Dev.tc c : Thread nD τ).2.kind .vmem S1024x512 .bf16)))}
    {α : Type} {Q : α → sProp 𝕄} {k : PUnit → Prog (TpuEff nD τ sig (Elt F) Λ₀ .tc) α} :
    iprop(records m K ∗ ltodo m c s)
      ⊢ iprop((cred (tallyAt (localCell c s) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S8192x1024) off S1024x512.size hin) hst)
                (.here ((gM.slice (Rect.unit (s := S8x2x1024x512) off' S1x1x1024x512.size hin') hst').squeeze S1024x512 hsq))
                (.dma sD) hsrc hdst hsem) k) Q) := by
  subst hoff hoff' hsD
  unfold ltodo slotAny slotPts xPc
  iintro ⟨#HR, Hx, ⟨%fd, Hs⟩, Ht, #Hr⟩ Hk
  iapply (Rounds.wp_copy_pointsTo 𝒱₀ ER (rd m) (c : Thread nD τ) none (src := srcM (tgt c 7) s)
      (dst := slotM 7 s) (sem := .dma (localS s)) (q := fullShare) (fs := xIn m c) (κ := K (localCell c s)) (r := 0) (d := 0) (fd := fd)
      (by rw [duties_own]; exact Finset.mem_singleton_self _) () N rfl (amount_own m c _ 0)
      (by
        rw [payload_local]; unfold xPc
        refine sep_mono_left ?_
        have h := landed m c 7 s
        rw [tgt_last] at h ⊢
        exact h fd)) $$ [Hx Hs Ht]
  · isplitr; · iapply (inv_own m K c (localK s)); iexact HR
    isplitl [Hx]; · iexact Hx
    isplitl [Hs]; · iexact Hs
    isplitl [Ht]; · iexact Ht
    iexact Hr
  iexact Hk

/-- A wait on an own DMA cell, nothing owed: what its copy hands over, and its counter back at zero. -/
theorem own_step (c : Dev nD) (j : Fin 30) {sp sp' : Space} {s s' : Shape} {e e' : EltTy} {κ' : Kind}
    {sem : DmaSem sig} (hsem : sem = ownS j)
    {src : Memref sig (c : Thread nD τ).2.kind sp' s' e'} {dst : Memref sig κ' sp s e} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ atPos ER (ownCell c j) 0 ∅ 0 ∗ cred (tallyAt (ownCell c j) () N) ∗ owesE c 0)
      ⊢ iprop(((semVal (ownCell c j) 0 ∗ bigSep ((rd m).duties (ownCell c j) 0 \ ∅) (fun d => (rd m).payload (ownCell c j) 0 d) ∗ owesE c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold owesE
  iintro ⟨#HR, Hat, Hc, ⟨%W, HO⟩⟩ Hk
  iapply (Rounds.wp_wait_rest_token 𝒱₀ ER (rd m) (c : Thread nD τ) none (κ := K (ownCell c j))
      (wpE_waitDma2_eq 𝒱₀ (c : Thread nD τ) none Set.univ) (Set.mem_univ _) () (O := 0) (W := W) (R := 0) (m := 0) (T := ∅)
      (by rw [hN, expect_own, Nat.zero_add])) $$ [Hat Hc HO]
  · isplitr; · iapply (inv_own m K c j); iexact HR
    isplitl [Hc]; · rw [hN]; iexact Hc
    isplitl [HO]; · iexact HO
    isplitr; · rw [MayWait_zero]; iempintro
    iexact Hat
  iintro ⟨HO, Hat, -, Hp⟩
  imod (close m K (ownCell c j)) $$ [Hat] with Hz
  · isplitr; · iapply (inv_own m K c j); iexact HR
    iexact Hat
  iapply Hk
  isplitl [Hz]; · iexact Hz
  isplitl [Hp]; · iexact Hp
  iexists _; iexact HO

end Cert.KernelIdeal.Talk

end
-- ==== Proof.Parts.lean ====
/-
  The parts of the body, one lemma each: the signals and the barrier wait, the fourteen remote copies and the two local ones, and at the
  last step the waits for the fourteen remote copies to have left.
-/
module

public import proofs.«01_k».proof.Proof.Steps

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The printed devices, offsets and semaphores -/

theorem dev1 (c : Dev nD) (h) : (⟨k0_dev1 c, h⟩ : Dev nD) = tgt c (0 : Fin 7).castSucc := by revert c; decide
theorem dev2 (c : Dev nD) (h) : (⟨k0_dev2 c, h⟩ : Dev nD) = tgt c (1 : Fin 7).castSucc := by revert c; decide
theorem dev3 (c : Dev nD) (h) : (⟨k0_dev3 c, h⟩ : Dev nD) = tgt c (2 : Fin 7).castSucc := by revert c; decide
theorem dev4 (c : Dev nD) (h) : (⟨k0_dev4 c, h⟩ : Dev nD) = tgt c (3 : Fin 7).castSucc := by revert c; decide
theorem dev5 (c : Dev nD) (h) : (⟨k0_dev5 c, h⟩ : Dev nD) = tgt c (4 : Fin 7).castSucc := by revert c; decide
theorem dev6 (c : Dev nD) (h) : (⟨k0_dev6 c, h⟩ : Dev nD) = tgt c (5 : Fin 7).castSucc := by revert c; decide
theorem dev7 (c : Dev nD) (h) : (⟨k0_dev7 c, h⟩ : Dev nD) = tgt c (6 : Fin 7).castSucc := by revert c; decide
theorem dev8 (c : Dev nD) (h) : (⟨k0_dev8 c, h⟩ : Dev nD) = tgt c (0 : Fin 7).castSucc := by revert c; decide
theorem dev9 (c : Dev nD) (h) : (⟨k0_dev9 c, h⟩ : Dev nD) = tgt c (0 : Fin 7).castSucc := by revert c; decide
theorem dev10 (c : Dev nD) (h) : (⟨k0_dev10 c, h⟩ : Dev nD) = tgt c (1 : Fin 7).castSucc := by revert c; decide
theorem dev11 (c : Dev nD) (h) : (⟨k0_dev11 c, h⟩ : Dev nD) = tgt c (1 : Fin 7).castSucc := by revert c; decide
theorem dev12 (c : Dev nD) (h) : (⟨k0_dev12 c, h⟩ : Dev nD) = tgt c (2 : Fin 7).castSucc := by revert c; decide
theorem dev13 (c : Dev nD) (h) : (⟨k0_dev13 c, h⟩ : Dev nD) = tgt c (2 : Fin 7).castSucc := by revert c; decide
theorem dev14 (c : Dev nD) (h) : (⟨k0_dev14 c, h⟩ : Dev nD) = tgt c (3 : Fin 7).castSucc := by revert c; decide
theorem dev15 (c : Dev nD) (h) : (⟨k0_dev15 c, h⟩ : Dev nD) = tgt c (3 : Fin 7).castSucc := by revert c; decide
theorem dev16 (c : Dev nD) (h) : (⟨k0_dev16 c, h⟩ : Dev nD) = tgt c (4 : Fin 7).castSucc := by revert c; decide
theorem dev17 (c : Dev nD) (h) : (⟨k0_dev17 c, h⟩ : Dev nD) = tgt c (4 : Fin 7).castSucc := by revert c; decide
theorem dev18 (c : Dev nD) (h) : (⟨k0_dev18 c, h⟩ : Dev nD) = tgt c (5 : Fin 7).castSucc := by revert c; decide
theorem dev19 (c : Dev nD) (h) : (⟨k0_dev19 c, h⟩ : Dev nD) = tgt c (5 : Fin 7).castSucc := by revert c; decide
theorem dev20 (c : Dev nD) (h) : (⟨k0_dev20 c, h⟩ : Dev nD) = tgt c (6 : Fin 7).castSucc := by revert c; decide
theorem dev21 (c : Dev nD) (h) : (⟨k0_dev21 c, h⟩ : Dev nD) = tgt c (6 : Fin 7).castSucc := by revert c; decide

theorem off2 (c : Dev nD) : k0_off2 c = srcOff (tgt c 7) 0 := by revert c; decide
theorem off3 (c : Dev nD) : k0_off3 c = srcOff (tgt c 7) 1 := by revert c; decide
theorem off4 (c : Dev nD) (i : Fin 7) : k0_off4 c (BitVec.ofNat 32 i.val) = srcOff (tgt c i.castSucc) 0 := by revert c i; decide
theorem off5 (c : Dev nD) (i : Fin 7) : k0_off5 c (BitVec.ofNat 32 i.val) = srcOff (tgt c i.castSucc) 1 := by revert c i; decide

theorem send_00 : ((cc0_scratch1.slice (Rect.unit (s := S7x2) ![0, 0] S1x1.size inb_S7x2_S1x1_0_0)).squeeze S_ squeezes_S1x1_S_).sem = sendS 0 0 := by decide
theorem recv_00 : ((cc0_scratch2.slice (Rect.unit (s := S7x2) ![0, 0] S1x1.size inb_S7x2_S1x1_0_0)).squeeze S_ squeezes_S1x1_S_).sem = recvS 0 0 := by decide
theorem send_01 : ((cc0_scratch1.slice (Rect.unit (s := S7x2) ![0, 1] S1x1.size inb_S7x2_S1x1_0_1)).squeeze S_ squeezes_S1x1_S_).sem = sendS 0 1 := by decide
theorem recv_01 : ((cc0_scratch2.slice (Rect.unit (s := S7x2) ![0, 1] S1x1.size inb_S7x2_S1x1_0_1)).squeeze S_ squeezes_S1x1_S_).sem = recvS 0 1 := by decide
theorem send_10 : ((cc0_scratch1.slice (Rect.unit (s := S7x2) ![1, 0] S1x1.size inb_S7x2_S1x1_1_0)).squeeze S_ squeezes_S1x1_S_).sem = sendS 1 0 := by decide
theorem recv_10 : ((cc0_scratch2.slice (Rect.unit (s := S7x2) ![1, 0] S1x1.size inb_S7x2_S1x1_1_0)).squeeze S_ squeezes_S1x1_S_).sem = recvS 1 0 := by decide
theorem send_11 : ((cc0_scratch1.slice (Rect.unit (s := S7x2) ![1, 1] S1x1.size inb_S7x2_S1x1_1_1)).squeeze S_ squeezes_S1x1_S_).sem = sendS 1 1 := by decide
theorem recv_11 : ((cc0_scratch2.slice (Rect.unit (s := S7x2) ![1, 1] S1x1.size inb_S7x2_S1x1_1_1)).squeeze S_ squeezes_S1x1_S_).sem = recvS 1 1 := by decide
theorem send_20 : ((cc0_scratch1.slice (Rect.unit (s := S7x2) ![2, 0] S1x1.size inb_S7x2_S1x1_2_0)).squeeze S_ squeezes_S1x1_S_).sem = sendS 2 0 := by decide
theorem recv_20 : ((cc0_scratch2.slice (Rect.unit (s := S7x2) ![2, 0] S1x1.size inb_S7x2_S1x1_2_0)).squeeze S_ squeezes_S1x1_S_).sem = recvS 2 0 := by decide
theorem send_21 : ((cc0_scratch1.slice (Rect.unit (s := S7x2) ![2, 1] S1x1.size inb_S7x2_S1x1_2_1)).squeeze S_ squeezes_S1x1_S_).sem = sendS 2 1 := by decide
theorem recv_21 : ((cc0_scratch2.slice (Rect.unit (s := S7x2) ![2, 1] S1x1.size inb_S7x2_S1x1_2_1)).squeeze S_ squeezes_S1x1_S_).sem = recvS 2 1 := by decide
theorem send_30 : ((cc0_scratch1.slice (Rect.unit (s := S7x2) ![3, 0] S1x1.size inb_S7x2_S1x1_3_0)).squeeze S_ squeezes_S1x1_S_).sem = sendS 3 0 := by decide
theorem recv_30 : ((cc0_scratch2.slice (Rect.unit (s := S7x2) ![3, 0] S1x1.size inb_S7x2_S1x1_3_0)).squeeze S_ squeezes_S1x1_S_).sem = recvS 3 0 := by decide
theorem send_31 : ((cc0_scratch1.slice (Rect.unit (s := S7x2) ![3, 1] S1x1.size inb_S7x2_S1x1_3_1)).squeeze S_ squeezes_S1x1_S_).sem = sendS 3 1 := by decide
theorem recv_31 : ((cc0_scratch2.slice (Rect.unit (s := S7x2) ![3, 1] S1x1.size inb_S7x2_S1x1_3_1)).squeeze S_ squeezes_S1x1_S_).sem = recvS 3 1 := by decide
theorem send_40 : ((cc0_scratch1.slice (Rect.unit (s := S7x2) ![4, 0] S1x1.size inb_S7x2_S1x1_4_0)).squeeze S_ squeezes_S1x1_S_).sem = sendS 4 0 := by decide
theorem recv_40 : ((cc0_scratch2.slice (Rect.unit (s := S7x2) ![4, 0] S1x1.size inb_S7x2_S1x1_4_0)).squeeze S_ squeezes_S1x1_S_).sem = recvS 4 0 := by decide
theorem send_41 : ((cc0_scratch1.slice (Rect.unit (s := S7x2) ![4, 1] S1x1.size inb_S7x2_S1x1_4_1)).squeeze S_ squeezes_S1x1_S_).sem = sendS 4 1 := by decide
theorem recv_41 : ((cc0_scratch2.slice (Rect.unit (s := S7x2) ![4, 1] S1x1.size inb_S7x2_S1x1_4_1)).squeeze S_ squeezes_S1x1_S_).sem = recvS 4 1 := by decide
theorem send_50 : ((cc0_scratch1.slice (Rect.unit (s := S7x2) ![5, 0] S1x1.size inb_S7x2_S1x1_5_0)).squeeze S_ squeezes_S1x1_S_).sem = sendS 5 0 := by decide
theorem recv_50 : ((cc0_scratch2.slice (Rect.unit (s := S7x2) ![5, 0] S1x1.size inb_S7x2_S1x1_5_0)).squeeze S_ squeezes_S1x1_S_).sem = recvS 5 0 := by decide
theorem send_51 : ((cc0_scratch1.slice (Rect.unit (s := S7x2) ![5, 1] S1x1.size inb_S7x2_S1x1_5_1)).squeeze S_ squeezes_S1x1_S_).sem = sendS 5 1 := by decide
theorem recv_51 : ((cc0_scratch2.slice (Rect.unit (s := S7x2) ![5, 1] S1x1.size inb_S7x2_S1x1_5_1)).squeeze S_ squeezes_S1x1_S_).sem = recvS 5 1 := by decide
theorem send_60 : ((cc0_scratch1.slice (Rect.unit (s := S7x2) ![6, 0] S1x1.size inb_S7x2_S1x1_6_0)).squeeze S_ squeezes_S1x1_S_).sem = sendS 6 0 := by decide
theorem recv_60 : ((cc0_scratch2.slice (Rect.unit (s := S7x2) ![6, 0] S1x1.size inb_S7x2_S1x1_6_0)).squeeze S_ squeezes_S1x1_S_).sem = recvS 6 0 := by decide
theorem send_61 : ((cc0_scratch1.slice (Rect.unit (s := S7x2) ![6, 1] S1x1.size inb_S7x2_S1x1_6_1)).squeeze S_ squeezes_S1x1_S_).sem = sendS 6 1 := by decide
theorem recv_61 : ((cc0_scratch2.slice (Rect.unit (s := S7x2) ![6, 1] S1x1.size inb_S7x2_S1x1_6_1)).squeeze S_ squeezes_S1x1_S_).sem = recvS 6 1 := by decide
theorem local_0 : ((cc0_scratch3.slice (Rect.unit (s := S2) ![0] S1.size inb_S2_S1_0)).squeeze S_ squeezes_S1_S_).sem = localS 0 := by decide
theorem local_1 : ((cc0_scratch3.slice (Rect.unit (s := S2) ![1] S1.size inb_S2_S1_1)).squeeze S_ squeezes_S1_S_).sem = localS 1 := by decide

/-- What a copy of a rectangle of `x` credits, and what one of a slot does. -/
theorem credit_x (off : Fin 2 → ℕ) (hin) (hst) :
    (xM.slice (Rect.unit (s := S8192x1024) off S1024x512.size hin) hst).view.dmaCredit = N := rfl
theorem credit_g (off : Fin 4 → ℕ) (hin) (hst) (hsq) :
    ((gM.slice (Rect.unit (s := S8x2x1024x512) off S1x1x1024x512.size hin) hst).squeeze S1024x512 hsq).view.dmaCredit = N := rfl

variable (m : (ℓ : Loc nD τ sig) → Buf (Elt F) ℓ) (K : GSem nD τ sig → ℕ)

/-- The prefetched table, whole. -/
abbrev tM : Memref sig .tc .smem S16 .i32 := Memref.whole main_v13

/-! ## The signals and the barrier wait -/

section
variable (c : Dev nD) (i : grid0.Coords) (h1 : tM.IsWhole) (h2 : xM.IsWhole) (arg3 : Memref sig .tc .vmem S512x4096 .bf16) (h3 : arg3.IsWhole)
  (arg4 : Memref sig .tc .vmem S1024x4096 .f32) (h4 : arg4.IsWhole) (h5 : gM.IsWhole) (v2 : BitVec 32)

theorem part1 (hc : k0_cond1 i = 1#1) {Q : Sems sig S_ → sProp 𝕄} :
    iprop(records m K ∗ each sigs (sigRes c) ∗ owesE c (owing c dues))
      ⊢ iprop((each [4, 5, 6] (sigRes c) ∗ owesE c (owing c (([4, 5, 6] : List (Fin 7)).map sigDue ++ cps.map cpDue)) -∗ Q (SemArray.scalar (sig.barrier 0 rfl)))
        -∗ wp frame (wpE (defs₀ (F := F)) 𝒱₀ (c : Thread nD τ) none) Set.univ
          (k0_part1 i tM h1 xM h2 arg3 h3 arg4 h4 gM h5 cc0_scratch1 cc0_scratch2 cc0_scratch3 c v2 hc) Q) := by
  simp only [k0_part1_eq_skeleton]; unfold k0_part1_skel
  simp only [semSignalWord, semWaitWord, Prog.lift, Prog.bind_op, Prog.bind_ret, Prog.pure_eq_ret]
  iintro ⟨#HR, H⟩ Hk
  iapply (sig_step m K c 0 [1, 2, 3, 4, 5, 6] (cps.map cpDue) _ (dev1 c _) _ rfl _ (by decide)) $$ [H]
  · isplitr; · iexact HR
    iexact H
  iintro H
  iapply (sig_step m K c 1 [2, 3, 4, 5, 6] (cps.map cpDue) _ (dev2 c _) _ rfl _ (by decide)) $$ [H]
  · isplitr; · iexact HR
    iexact H
  iintro H
  iapply (sig_step m K c 2 [3, 4, 5, 6] (cps.map cpDue) _ (dev3 c _) _ rfl _ (by decide)) $$ [H]
  · isplitr; · iexact HR
    iexact H
  iintro H
  iapply (sig_step m K c 3 [4, 5, 6] (cps.map cpDue) _ (dev4 c _) _ rfl _ (by decide)) $$ [H]
  · isplitr; · iexact HR
    iexact H
  iintro H
  rw [wp_ret]; imodintro; iapply Hk; iexact H

theorem part2 (hc : k0_cond1 i = 1#1) {Q : BitVec 32 → sProp 𝕄} :
    iprop(records m K ∗ (each [4, 5, 6] (sigRes c) ∗ owesE c (owing c (([4, 5, 6] : List (Fin 7)).map sigDue ++ cps.map cpDue)))
        ∗ atPos ER (barCell c) 0 ∅ 0 ∗ cred (tallyAt (barCell c) () 7) ∗ ltodo m c 0 ∗ ltodo m c 1)
      ⊢ iprop((∀ r, (semVal (barCell c) 0 ∗ bigSep Finset.univ (fun i => barPay (F := F) c i) ∗ owesE c (owing c (cps.map cpDue))
            ∗ cred (tallyAt (localCell c 0) () N) ∗ cred (tallyAt (localCell c 1) () N)) -∗ Q r)
        -∗ wp frame (wpE (defs₀ (F := F)) 𝒱₀ (c : Thread nD τ) none) Set.univ
          (k0_part2 i tM h1 xM h2 arg3 h3 arg4 h4 gM h5 cc0_scratch1 cc0_scratch2 cc0_scratch3 c v2 hc (SemArray.scalar (sig.barrier 0 rfl))) Q) := by
  simp only [k0_part2_eq_skeleton]; unfold k0_part2_skel
  simp only [semSignalWord, semWaitWord, Prog.lift, Prog.bind_op, Prog.bind_ret, Prog.pure_eq_ret]
  iintro ⟨#HR, H, Hat, Hc, Hl0, Hl1⟩ Hk
  iapply (sig_step m K c 4 [5, 6] (cps.map cpDue) _ (dev5 c _) _ rfl _ (by decide)) $$ [H]
  · isplitr; · iexact HR
    iexact H
  iintro H
  iapply (sig_step m K c 5 [6] (cps.map cpDue) _ (dev6 c _) _ rfl _ (by decide)) $$ [H]
  · isplitr; · iexact HR
    iexact H
  iintro H
  iapply (sig_step m K c 6 [] (cps.map cpDue) _ (dev7 c _) _ rfl _ (by decide)) $$ [H]
  · isplitr; · iexact HR
    iexact H
  iintro H
  icases H with ⟨-, HO⟩
  iapply (bar_step m K c (cps.map cpDue) (by decide) _ rfl _ (by decide)) $$ [HO Hat Hc]
  · isplitr; · iexact HR
    isplitl [Hat]; · iexact Hat
    isplitl [Hc]; · iexact Hc
    iexact HO
  iintro ⟨Hz, Hp, HO⟩
  iapply (local_step m K c 0 (off2 c) rfl local_0) $$ [Hl0]
  · isplitr; · iexact HR
    iexact Hl0
  iintro Hc0
  iapply (local_step m K c 1 (off3 c) rfl local_1) $$ [Hl1]
  · isplitr; · iexact HR
    iexact Hl1
  iintro Hc1
  rw [wp_ret]; imodintro; iapply Hk
  isplitl [Hz]; · iexact Hz
  isplitl [Hp]; · iexact Hp
  isplitl [HO]; · iexact HO
  isplitl [Hc0]; · iexact Hc0
  iexact Hc1

/-! ## The remote copies -/

theorem part3 (v113 : BitVec 32) (hc : k0_cond1 i = 1#1) (done l : List P) {Q : BitVec 32 → sProp 𝕄} :
    iprop(records m K ∗ each done (sent c) ∗ each ((0, 0) :: (0, 1) :: l) (todo m c) ∗ owesE c (owing c (((0, 0) :: (0, 1) :: l : List P).map cpDue)))
      ⊢ iprop((∀ r, (each (done ++ [(0, 0)] ++ [(0, 1)]) (sent c) ∗ each l (todo m c) ∗ owesE c (owing c (l.map cpDue))) -∗ Q r)
        -∗ wp frame (wpE (defs₀ (F := F)) 𝒱₀ (c : Thread nD τ) none) Set.univ
          (k0_part3 i tM h1 xM h2 arg3 h3 arg4 h4 gM h5 cc0_scratch1 cc0_scratch2 cc0_scratch3 c v2 hc v113) Q) := by
  simp only [k0_part3_eq_skeleton]; unfold k0_part3_skel
  simp only [Prog.lift, Prog.bind_op, Prog.bind_ret, Prog.pure_eq_ret]
  iintro ⟨#HR, H⟩ Hk
  iapply (copy_step m K c (0, 0) _ _ _ (dev8 c _) (off4 c 0) rfl send_00 recv_00) $$ [H]
  · isplitr; · iexact HR
    iexact H
  iintro H
  iapply (copy_step m K c (0, 1) _ _ _ (dev9 c _) (off5 c 0) rfl send_01 recv_01) $$ [H]
  · isplitr; · iexact HR
    iexact H
  iintro H
  rw [wp_ret]; imodintro; iapply Hk; iexact H

theorem part4 (v137 : BitVec 32) (hc : k0_cond1 i = 1#1) (done l : List P) {Q : BitVec 32 → sProp 𝕄} :
    iprop(records m K ∗ each done (sent c) ∗ each ((1, 0) :: (1, 1) :: l) (todo m c) ∗ owesE c (owing c (((1, 0) :: (1, 1) :: l : List P).map cpDue)))
      ⊢ iprop((∀ r, (each (done ++ [(1, 0)] ++ [(1, 1)]) (sent c) ∗ each l (todo m c) ∗ owesE c (owing c (l.map cpDue))) -∗ Q r)
        -∗ wp frame (wpE (defs₀ (F := F)) 𝒱₀ (c : Thread nD τ) none) Set.univ
          (k0_part4 i tM h1 xM h2 arg3 h3 arg4 h4 gM h5 cc0_scratch1 cc0_scratch2 cc0_scratch3 c v2 hc v137) Q) := by
  simp only [k0_part4_eq_skeleton]; unfold k0_part4_skel
  simp only [Prog.lift, Prog.bind_op, Prog.bind_ret, Prog.pure_eq_ret]
  iintro ⟨#HR, H⟩ Hk
  iapply (copy_step m K c (1, 0) _ _ _ (dev10 c _) (off4 c 1) rfl send_10 recv_10) $$ [H]
  · isplitr; · iexact HR
    iexact H
  iintro H
  iapply (copy_step m K c (1, 1) _ _ _ (dev11 c _) (off5 c 1) rfl send_11 recv_11) $$ [H]
  · isplitr; · iexact HR
    iexact H
  iintro H
  rw [wp_ret]; imodintro; iapply Hk; iexact H

theorem part5 (v160 : BitVec 32) (hc : k0_cond1 i = 1#1) (done l : List P) {Q : BitVec 32 → sProp 𝕄} :
    iprop(records m K ∗ each done (sent c) ∗ each ((2, 0) :: (2, 1) :: l) (todo m c) ∗ owesE c (owing c (((2, 0) :: (2, 1) :: l : List P).map cpDue)))
      ⊢ iprop((∀ r, (each (done ++ [(2, 0)] ++ [(2, 1)]) (sent c) ∗ each l (todo m c) ∗ owesE c (owing c (l.map cpDue))) -∗ Q r)
        -∗ wp frame (wpE (defs₀ (F := F)) 𝒱₀ (c : Thread nD τ) none) Set.univ
          (k0_part5 i tM h1 xM h2 arg3 h3 arg4 h4 gM h5 cc0_scratch1 cc0_scratch2 cc0_scratch3 c v2 hc v160) Q) := by
  simp only [k0_part5_eq_skeleton]; unfold k0_part5_skel
  simp only [Prog.lift, Prog.bind_op, Prog.bind_ret, Prog.pure_eq_ret]
  iintro ⟨#HR, H⟩ Hk
  iapply (copy_step m K c (2, 0) _ _ _ (dev12 c _) (off4 c 2) rfl send_20 recv_20) $$ [H]
  · isplitr; · iexact HR
    iexact H
  iintro H
  iapply (copy_step m K c (2, 1) _ _ _ (dev13 c _) (off5 c 2) rfl send_21 recv_21) $$ [H]
  · isplitr; · iexact HR
    iexact H
  iintro H
  rw [wp_ret]; imodintro; iapply Hk; iexact H

theorem part6 (v183 : BitVec 32) (hc : k0_cond1 i = 1#1) (done l : List P) {Q : BitVec 32 → sProp 𝕄} :
    iprop(records m K ∗ each done (sent c) ∗ each ((3, 0) :: (3, 1) :: (4, 0) :: l) (todo m c) ∗ owesE c (owing c (((3, 0) :: (3, 1) :: (4, 0) :: l : List P).map cpDue)))
      ⊢ iprop((∀ r, (each (done ++ [(3, 0)] ++ [(3, 1)] ++ [(4, 0)]) (sent c) ∗ each l (todo m c) ∗ owesE c (owing c (l.map cpDue))) -∗ Q r)
        -∗ wp frame (wpE (defs₀ (F := F)) 𝒱₀ (c : Thread nD τ) none) Set.univ
          (k0_part6 i tM h1 xM h2 arg3 h3 arg4 h4 gM h5 cc0_scratch1 cc0_scratch2 cc0_scratch3 c v2 hc v183) Q) := by
  simp only [k0_part6_eq_skeleton]; unfold k0_part6_skel
  simp only [Prog.lift, Prog.bind_op, Prog.bind_ret, Prog.pure_eq_ret]
  iintro ⟨#HR, H⟩ Hk
  iapply (copy_step m K c (3, 0) _ _ _ (dev14 c _) (off4 c 3) rfl send_30 recv_30) $$ [H]
  · isplitr; · iexact HR
    iexact H
  iintro H
  iapply (copy_step m K c (3, 1) _ _ _ (dev15 c _) (off5 c 3) rfl send_31 recv_31) $$ [H]
  · isplitr; · iexact HR
    iexact H
  iintro H
  iapply (copy_step m K c (4, 0) _ _ _ (dev16 c _) (off4 c 4) rfl send_40 recv_40) $$ [H]
  · isplitr; · iexact HR
    iexact H
  iintro H
  rw [wp_ret]; imodintro; iapply Hk; iexact H

theorem part7 (v206 : BitVec 32) (hc : k0_cond1 i = 1#1) (done l : List P) {Q : PUnit → sProp 𝕄} :
    iprop(records m K ∗ each done (sent c) ∗ each ((4, 1) :: (5, 0) :: l) (todo m c) ∗ owesE c (owing c (((4, 1) :: (5, 0) :: l : List P).map cpDue)))
      ⊢ iprop((∀ r, (each (done ++ [(4, 1)] ++ [(5, 0)]) (sent c) ∗ each l (todo m c) ∗ owesE c (owing c (l.map cpDue))) -∗ Q r)
        -∗ wp frame (wpE (defs₀ (F := F)) 𝒱₀ (c : Thread nD τ) none) Set.univ
          (k0_part7 i tM h1 xM h2 arg3 h3 arg4 h4 gM h5 cc0_scratch1 cc0_scratch2 cc0_scratch3 c v2 hc v206) Q) := by
  simp only [k0_part7_eq_skeleton]; unfold k0_part7_skel
  simp only [Prog.lift, Prog.bind_op, Prog.bind_ret, Prog.pure_eq_ret]
  iintro ⟨#HR, H⟩ Hk
  iapply (copy_step m K c (4, 1) _ _ _ (dev17 c _) (off5 c 4) rfl send_41 recv_41) $$ [H]
  · isplitr; · iexact HR
    iexact H
  iintro H
  iapply (copy_step m K c (5, 0) _ _ _ (dev18 c _) (off4 c 5) rfl send_50 recv_50) $$ [H]
  · isplitr; · iexact HR
    iexact H
  iintro H
  rw [wp_ret]; imodintro; iapply Hk; iexact H

theorem part8 (hc : k0_cond1 i = 1#1) (done l : List P) {Q : PUnit → sProp 𝕄} :
    iprop(records m K ∗ each done (sent c) ∗ each ((5, 1) :: (6, 0) :: (6, 1) :: l) (todo m c) ∗ owesE c (owing c (((5, 1) :: (6, 0) :: (6, 1) :: l : List P).map cpDue)))
      ⊢ iprop((∀ r, (each (done ++ [(5, 1)] ++ [(6, 0)] ++ [(6, 1)]) (sent c) ∗ each l (todo m c) ∗ owesE c (owing c (l.map cpDue))) -∗ Q r)
        -∗ wp frame (wpE (defs₀ (F := F)) 𝒱₀ (c : Thread nD τ) none) Set.univ
          (k0_part8 i tM h1 xM h2 arg3 h3 arg4 h4 gM h5 cc0_scratch1 cc0_scratch2 cc0_scratch3 c v2 hc) Q) := by
  simp only [k0_part8_eq_skeleton]; unfold k0_part8_skel
  simp only [Prog.lift, Prog.bind_op, Prog.bind_ret, Prog.pure_eq_ret]
  iintro ⟨#HR, H⟩ Hk
  iapply (copy_step m K c (5, 1) _ _ _ (dev19 c _) (off5 c 5) rfl send_51 recv_51) $$ [H]
  · isplitr; · iexact HR
    iexact H
  iintro H
  iapply (copy_step m K c (6, 0) _ _ _ (dev20 c _) (off4 c 6) rfl send_60 recv_60) $$ [H]
  · isplitr; · iexact HR
    iexact H
  iintro H
  iapply (copy_step m K c (6, 1) _ _ _ (dev21 c _) (off5 c 6) rfl send_61 recv_61) $$ [H]
  · isplitr; · iexact HR
    iexact H
  iintro H
  rw [wp_ret]; imodintro; iapply Hk; iexact H

/-! ## The last step's waits: every remote copy has left, its source is back and its counter at zero -/

/-- A copy under way; and one that has left. -/
def flying (p : P) : sProp 𝕄 := iprop(atPos ER (sendCell c p.1 p.2) 0 ∅ 0 ∗ sent c p)
def left (p : P) : sProp 𝕄 := iprop(semVal (sendCell c p.1 p.2) 0 ∗ xPc m c p.1.castSucc p.2)

theorem left_step (p : P) (done l : List P) {sp sp' : Space} {s s' : Shape} {e e' : EltTy} {κ' : Kind}
    {sem : DmaSem sig} (hsem : sem = sendS p.1 p.2)
    {src : Memref sig (c : Thread nD τ).2.kind sp' s' e'} {dst : Memref sig κ' sp s e} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ each done (left m c) ∗ each (p :: l) (flying c) ∗ owesE c 0)
      ⊢ iprop(((each (done ++ [p]) (left m c) ∗ each l (flying c) ∗ owesE c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  show iprop(records m K ∗ each done (left m c) ∗ (flying c p ∗ each l (flying c)) ∗ owesE c 0) ⊢ _
  unfold flying sent
  iintro ⟨#HR, Hd, ⟨⟨Hat, Hc⟩, Hl⟩, HO⟩ Hk
  iapply (own_step m K c (sendK p.1 p.2) hsem hN) $$ [Hat Hc HO]
  · isplitr; · iexact HR
    isplitl [Hat]; · iexact Hat
    isplitl [Hc]; · iexact Hc
    iexact HO
  iintro ⟨Hz, Hp, HO⟩
  ihave Hp := (Entails.of_eq (rest_send m c p.1 p.2)) $$ Hp
  iapply Hk
  isplitl [Hd Hz Hp]
  · iapply (each_snoc done p (left m c)); isplitl [Hd]; · iexact Hd
    unfold left; isplitl [Hz]; · iexact Hz
    iexact Hp
  isplitl [Hl]; · iexact Hl
  iexact HO

theorem part10 (v86 : BitVec 32) (c1024_i32_62 : BitVec 32) (hc : k0_cond5 i = 1#1) (done l : List P) {Q : (Σ' (v101 : BitVec 32), BitVec 32) → sProp 𝕄} :
    iprop(records m K ∗ each done (left m c) ∗ each ((1, 0) :: (1, 1) :: (2, 0) :: l) (flying c) ∗ owesE c 0)
      ⊢ iprop((∀ r, (each (done ++ [(1, 0)] ++ [(1, 1)] ++ [(2, 0)]) (left m c) ∗ each l (flying c) ∗ owesE c 0) -∗ Q r)
        -∗ wp frame (wpE (defs₀ (F := F)) 𝒱₀ (c : Thread nD τ) none) Set.univ
          (k0_part10 i tM h1 xM h2 arg3 h3 arg4 h4 gM h5 cc0_scratch1 cc0_scratch2 cc0_scratch3 c v2 hc v86 c1024_i32_62) Q) := by
  simp only [k0_part10_eq_skeleton]; unfold k0_part10_skel
  simp only [Prog.lift, Prog.bind_op, Prog.bind_ret, Prog.pure_eq_ret]
  iintro ⟨#HR, H⟩ Hk
  iapply (left_step m K c (1, 0) _ _ send_10 (credit_x _ _ _)) $$ [H]
  · isplitr; · iexact HR
    iexact H
  iintro H
  iapply (left_step m K c (1, 1) _ _ send_11 (credit_x _ _ _)) $$ [H]
  · isplitr; · iexact HR
    iexact H
  iintro H
  iapply (left_step m K c (2, 0) _ _ send_20 (credit_x _ _ _)) $$ [H]
  · isplitr; · iexact HR
    iexact H
  iintro H
  rw [wp_ret]; imodintro; iapply Hk; iexact H

theorem part11 (v101 : BitVec 32) (c1024_i32_98 : BitVec 32) (hc : k0_cond5 i = 1#1) (done l : List P) {Q : (BitVec 32) → sProp 𝕄} :
    iprop(records m K ∗ each done (left m c) ∗ each ((2, 1) :: (3, 0) :: (3, 1) :: l) (flying c) ∗ owesE c 0)
      ⊢ iprop((∀ r, (each (done ++ [(2, 1)] ++ [(3, 0)] ++ [(3, 1)]) (left m c) ∗ each l (flying c) ∗ owesE c 0) -∗ Q r)
        -∗ wp frame (wpE (defs₀ (F := F)) 𝒱₀ (c : Thread nD τ) none) Set.univ
          (k0_part11 i tM h1 xM h2 arg3 h3 arg4 h4 gM h5 cc0_scratch1 cc0_scratch2 cc0_scratch3 c v2 hc v101 c1024_i32_98) Q) := by
  simp only [k0_part11_eq_skeleton]; unfold k0_part11_skel
  simp only [Prog.lift, Prog.bind_op, Prog.bind_ret, Prog.pure_eq_ret]
  iintro ⟨#HR, H⟩ Hk
  iapply (left_step m K c (2, 1) _ _ send_21 (credit_x _ _ _)) $$ [H]
  · isplitr; · iexact HR
    iexact H
  iintro H
  iapply (left_step m K c (3, 0) _ _ send_30 (credit_x _ _ _)) $$ [H]
  · isplitr; · iexact HR
    iexact H
  iintro H
  iapply (left_step m K c (3, 1) _ _ send_31 (credit_x _ _ _)) $$ [H]
  · isplitr; · iexact HR
    iexact H
  iintro H
  rw [wp_ret]; imodintro; iapply Hk; iexact H

theorem part12 (c1_i32_133 : BitVec 32) (hc : k0_cond5 i = 1#1) (done l : List P) {Q : (BitVec 32) → sProp 𝕄} :
    iprop(records m K ∗ each done (left m c) ∗ each ((4, 0) :: (4, 1) :: l) (flying c) ∗ owesE c 0)
      ⊢ iprop((∀ r, (each (done ++ [(4, 0)] ++ [(4, 1)]) (left m c) ∗ each l (flying c) ∗ owesE c 0) -∗ Q r)
        -∗ wp frame (wpE (defs₀ (F := F)) 𝒱₀ (c : Thread nD τ) none) Set.univ
          (k0_part12 i tM h1 xM h2 arg3 h3 arg4 h4 gM h5 cc0_scratch1 cc0_scratch2 cc0_scratch3 c v2 hc c1_i32_133) Q) := by
  simp only [k0_part12_eq_skeleton]; unfold k0_part12_skel
  simp only [Prog.lift, Prog.bind_op, Prog.bind_ret, Prog.pure_eq_ret]
  iintro ⟨#HR, H⟩ Hk
  iapply (left_step m K c (4, 0) _ _ send_40 (credit_x _ _ _)) $$ [H]
  · isplitr; · iexact HR
    iexact H
  iintro H
  iapply (left_step m K c (4, 1) _ _ send_41 (credit_x _ _ _)) $$ [H]
  · isplitr; · iexact HR
    iexact H
  iintro H
  rw [wp_ret]; imodintro; iapply Hk; iexact H

theorem part13 (v146 : BitVec 32) (hc : k0_cond5 i = 1#1) (done l : List P) {Q : (PUnit) → sProp 𝕄} :
    iprop(records m K ∗ each done (left m c) ∗ each ((5, 0) :: (5, 1) :: (6, 0) :: l) (flying c) ∗ owesE c 0)
      ⊢ iprop((∀ r, (each (done ++ [(5, 0)] ++ [(5, 1)] ++ [(6, 0)]) (left m c) ∗ each l (flying c) ∗ owesE c 0) -∗ Q r)
        -∗ wp frame (wpE (defs₀ (F := F)) 𝒱₀ (c : Thread nD τ) none) Set.univ
          (k0_part13 i tM h1 xM h2 arg3 h3 arg4 h4 gM h5 cc0_scratch1 cc0_scratch2 cc0_scratch3 c v2 hc v146) Q) := by
  simp only [k0_part13_eq_skeleton]; unfold k0_part13_skel
  simp only [Prog.lift, Prog.bind_op, Prog.bind_ret, Prog.pure_eq_ret]
  iintro ⟨#HR, H⟩ Hk
  iapply (left_step m K c (5, 0) _ _ send_50 (credit_x _ _ _)) $$ [H]
  · isplitr; · iexact HR
    iexact H
  iintro H
  iapply (left_step m K c (5, 1) _ _ send_51 (credit_x _ _ _)) $$ [H]
  · isplitr; · iexact HR
    iexact H
  iintro H
  iapply (left_step m K c (6, 0) _ _ send_60 (credit_x _ _ _)) $$ [H]
  · isplitr; · iexact HR
    iexact H
  iintro H
  rw [wp_ret]; imodintro; iapply Hk; iexact H

end

end Cert.KernelIdeal.Talk

end
-- ==== Proof.Body.lean ====
/-
  The body at the four kinds of grid point: the first (the exchange is started), the second (the own block's other half), the
  middle ones (one received piece each) and the last (the result is clipped and the copies are seen off).
-/
module

public import proofs.«01_k».proof.Proof.Parts
public import Idealize.ShloMosaic.Lib.WordExact
public import Idealize.ShloMosaic.Lib.Pipeline.Value

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores of whole views, and the load of a filled slot -/

omit [FloatOps F] in
theorem idx_zero {s : Shape} {off : Fin s.rank → ℕ} (hz : off = fun _ => 0) {inb : ∀ a, off a + s.size a ≤ s.size a} (y : s.Idx) :
    (Rect.unit (s := s) off s.size inb).toLoadRect.idx y = y := by
  subst hz; exact LoadRect.idx_whole y

theorem load_whole (c : Dev nD) {s : Shape} {e : EltTy} {M : Memref sig .tc .vmem s e} {off : Fin s.rank → ℕ} (hz : off = fun _ => 0)
    {inb : ∀ a, off a + s.size a ≤ s.size a} {hl : M.view.LoadsAt (Rect.unit (s := s) off s.size inb).toLoadRect} {X : s.Idx → Elt F e}
    {α : Type} {Q : α → sProp 𝕄} {k : (s.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ (.op (.load M (Rect.unit (s := s) off s.size inb).toLoadRect hl) k) Q) := by
  have hX : ∀ f, M.view.readAt (Elt F) (Rect.unit (s := s) off s.size inb).toLoadRect f = M.view.read (Elt F) f := fun f =>
    funext fun y => congrArg (M.view.read (Elt F) f) (idx_zero hz y)
  unfold owns
  iintro ⟨%f, %hf, H⟩ Hk
  iapply (wp_load 𝒱₀ (c : Thread nD τ) none Set.univ (m := M) (S := M.view.set) (q := fullShare) (f := f)
    (View.setOn_subset_set _ _)) $$ H
  iintro H
  rw [hX f, hf]
  iapply Hk; iexists f; isplitr; · ipureintro; exact hf
  iexact H

theorem store_whole (c : Dev nD) {s : Shape} {e : EltTy} {M : Memref sig .tc .vmem s e} {off : Fin s.rank → ℕ} (hz : off = fun _ => 0)
    {inb : ∀ a, off a + s.size a ≤ s.size a} {X w : s.Idx → Elt F e}
    {hx : (M.access (Rect.unit (s := s) off s.size inb)).Stores Finset.univ} {hm}
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := s) off s.size inb) w Finset.univ hx hm) k) Q) := by
  have hw : ∀ f, M.view.read (Elt F) ((M.access (Rect.unit (s := s) off s.size inb)).write (Elt F) f w Finset.univ) = w := fun f => by
    refine Eq.trans (funext fun y => ?_) ((M.access (Rect.unit (s := s) off s.size inb)).read_write_univ f w)
    exact (congrArg (M.view.read (Elt F) ((M.access (Rect.unit (s := s) off s.size inb)).write (Elt F) f w Finset.univ)) (idx_zero hz (inb := inb) y)).symm
  unfold owns
  iintro ⟨%f, %hf, H⟩ Hk
  iapply (wp_store 𝒱₀ (c : Thread nD τ) none Set.univ (m := M) (r := Rect.unit (s := s) off s.size inb) (Mk := Finset.univ) (S := M.view.set) (f := f)
    (View.set_slice_subset _ _)) $$ H
  iintro H
  iapply Hk; iexists _; isplitr; · ipureintro; exact hw f
  iexact H

variable (m : (ℓ : Loc nD τ sig) → Buf (Elt F) ℓ) (K : GSem nD τ sig → ℕ)

theorem setOn_sub {κ : Kind} {sp : Space} {s : Shape} {e : EltTy} (v : View sig κ sp s e) (r : Rect s) : v.setOn r.toLoadRect.set ⊆ (v.slice r).set := by
  rw [View.set_slice]; exact Finset.Subset.refl _
theorem slot_sub (k : Fin 8) (s : Fin 2) (hin : ∀ a, slotOff k s a + S1x1x1024x512.size a ≤ S8x2x1024x512.size a) :
    gM.view.setOn (Rect.unit (s := S8x2x1024x512) (slotOff k s) S1x1x1024x512.size hin).toLoadRect.set ⊆ (slotM k s).view.set := by
  unfold slotM; rw [Memref.set_view_squeeze]; exact setOn_sub gM.view (slotR k s)

theorem load_slot (c : Dev nD) (k : Fin 8) (s : Fin 2) {off : Fin 4 → ℕ} (hoff : off = slotOff k s)
    {hin : ∀ a, off a + S1x1x1024x512.size a ≤ S8x2x1024x512.size a}
    {hl : gM.view.LoadsAt (Rect.unit (s := S8x2x1024x512) off S1x1x1024x512.size hin).toLoadRect}
    {α : Type} {Q : α → sProp 𝕄} {p : (S1x1x1024x512.Idx → Elt F .bf16) → Prog (TpuEff nD τ sig (Elt F) Λ₀ .tc) α} :
    slotGot m c k s
      ⊢ iprop((∀ v, ⌜shapeCast S1024x512 v shapeCasts_S1x1x1024x512_S1024x512 = got m c k s⌝ -∗ slotGot m c k s
            -∗ wp frame (wpE (defs₀ (F := F)) 𝒱₀ (c : Thread nD τ) none) Set.univ (p v) Q)
        -∗ wp frame (wpE (defs₀ (F := F)) 𝒱₀ (c : Thread nD τ) none) Set.univ
            (.op (.load gM (Rect.unit (s := S8x2x1024x512) off S1x1x1024x512.size hin).toLoadRect hl) p) Q) := by
  subst hoff
  unfold slotGot owns
  iintro ⟨%f, %hf, H⟩ Hk
  iapply (wp_load 𝒱₀ (c : Thread nD τ) none Set.univ (m := gM) (S := (slotM k s).view.set) (q := fullShare) (f := f)
    (slot_sub k s hin)) $$ H
  iintro H
  ispecialize Hk $$ %(gM.view.readAt (Elt F) (Rect.unit (s := S8x2x1024x512) (slotOff k s) S1x1x1024x512.size hin).toLoadRect f)
  iapply Hk
  · ipureintro; rw [← hf]; rfl
  iexists f; isplitr; · ipureintro; exact hf
  iexact H

/-! ## The values -/

/-- One block's product; the payloads of the three stores are it, its sum with the accumulator, and the accumulator clipped at zero. -/
def mm (w : Vec F S512x4096 .bf16) (g : FVec F S1024x512 .bf16) : FVec F S1024x4096 .f32 :=
  matmul dot_S1024x512_S512x4096_S1024x4096_1_0_0_1_n_n none g w (constant S1024x4096 .f32 0x00000000#32)

theorem pay1_eq (w : Vec F S512x4096 .bf16) (v : Vec F S1x1x1024x512 .bf16) (g : FVec F S1024x512 .bf16)
    (h : shapeCast S1024x512 v shapeCasts_S1x1x1024x512_S1024x512 = g) : k0_pay1 w v = mm w g := by
  subst h; unfold k0_pay1 mm; rw [shapeCast_self]
theorem pay2_eq (w : Vec F S512x4096 .bf16) (v : Vec F S1x1x1024x512 .bf16) (a : Vec F S1024x4096 .f32) (g : FVec F S1024x512 .bf16)
    (h : shapeCast S1024x512 v shapeCasts_S1x1x1024x512_S1024x512 = g) : k0_pay2 w v a = addf a (mm w g) := by
  unfold k0_pay2; rw [pay1_eq w v g h, shapeCast_self]

/-! ## The states between grid points -/

section
variable (c : Dev nD)

/-- Before the first point: a copy not yet sent, but for the slot it goes to; and one not yet received. -/
def unsent (p : P) : sProp 𝕄 :=
  iprop(xPc m c p.1.castSucc p.2 ∗ dutyTok ER (sendCell c p.1 p.2) 0 0 ∗ reached ER (sendCell c p.1 p.2) 0
    ∗ dutyTok ER (recvCell (tgt c p.1.castSucc) p.1 p.2) 0 0)
def atSend (p : P) : sProp 𝕄 := atPos ER (sendCell c p.1 p.2) 0 ∅ 0
def coming (p : P) : sProp 𝕄 := iprop(atPos ER (recvCell c p.1 p.2) 0 ∅ 0 ∗ cred (tallyAt (recvCell c p.1 p.2) () N))
/-- The pieces received before grid point `t` and those still to come. -/
def come (p : P) : sProp 𝕄 := iprop(slotGot m c p.1.castSucc p.2 ∗ semVal (recvCell c p.1 p.2) 0)
def recvSt (t : ℕ) (p : P) : sProp 𝕄 := if 2 * (p.1.val + 1) + p.2.val < t then come m c p else coming c p
def ownDone (s : Fin 2) : sProp 𝕄 := iprop(semVal (localCell c s) 0 ∗ slotGot m c 7 s ∗ xPc m c 7 s)

def st0 : sProp 𝕄 :=
  iprop(atPos ER (barCell c) 0 ∅ 0 ∗ cred (tallyAt (barCell c) () 7) ∗ each sigs (sigRes c)
    ∗ (each cps (unsent m c) ∗ each cps (atSend c)) ∗ bigSep Finset.univ (coming c)
    ∗ (ltodo m c 0 ∗ atPos ER (localCell c 0) 0 ∅ 0) ∗ (ltodo m c 1 ∗ atPos ER (localCell c 1) 0 ∅ 0))
def st (t : ℕ) : sProp 𝕄 :=
  iprop(semVal (barCell c) 0 ∗ each cps (flying c) ∗ bigSep Finset.univ (recvSt m c t) ∗ ownDone m c 0 ∗ ownDone m c 1)
def stEnd : sProp 𝕄 :=
  iprop(semVal (barCell c) 0 ∗ each cps (left m c) ∗ bigSep Finset.univ (come m c) ∗ ownDone m c 0 ∗ ownDone m c 1)

omit [FloatOps F] in
theorem each_sep {I : Type} (l : List I) (Φ Ψ : I → sProp 𝕄) : iprop(each l Φ ∗ each l Ψ) ⊢ each l (fun i => iprop(Φ i ∗ Ψ i)) := by
  induction l with
  | nil => show iprop(emp ∗ emp) ⊢ iprop(emp); iintro -; iempintro
  | cons i l ih =>
    show iprop((Φ i ∗ each l Φ) ∗ (Ψ i ∗ each l Ψ)) ⊢ iprop((Φ i ∗ Ψ i) ∗ each l (fun i => iprop(Φ i ∗ Ψ i)))
    iintro ⟨⟨Ha, Hb⟩, ⟨Hc, Hd⟩⟩
    isplitl [Ha Hc]
    · isplitl [Ha]; · iexact Ha
      iexact Hc
    iapply ih; isplitl [Hb]; · iexact Hb
    iexact Hd
omit [FloatOps F] in
theorem each_mono {I : Type} (l : List I) (Φ Ψ : I → sProp 𝕄) (h : ∀ i, Φ i ⊢ Ψ i) : each l Φ ⊢ each l Ψ := by
  induction l with
  | nil => exact BI.Entails.refl _
  | cons i l ih => exact BIClass.sep_mono (h i) ih

theorem cps_univ (Φ : P → sProp 𝕄) : bigSep Finset.univ Φ = each cps Φ := each_univ cps (by decide) (by decide) Φ
theorem sigs_univ (Φ : Fin 7 → sProp 𝕄) : bigSep Finset.univ Φ = each sigs Φ := each_univ sigs (by decide) (by decide) Φ

/-- What the barrier brings, a slot at a time. -/
def room (p : P) : sProp 𝕄 :=
  iprop(slotAny (tgt c p.1.castSucc) p.1.castSucc p.2 ∗ reached ER (recvCell (tgt c p.1.castSucc) p.1 p.2) 0)
theorem rooms : bigSep Finset.univ (fun i => barPay (F := F) c i) = each cps (room c) := by
  rw [← cps_univ, bigSep_univ_prod]
  refine bigSep_congr fun i _ => ?_
  rw [bigSep_fin_two]; rfl

theorem ready : iprop(each cps (unsent m c) ∗ each cps (room c)) ⊢ each cps (todo m c) := by
  refine (each_sep cps _ _).trans (each_mono cps _ _ fun p => ?_)
  unfold unsent room todo
  iintro ⟨⟨Hx, Ht, Hr, Hu⟩, Hs, Hv⟩
  isplitl [Hx]; · iexact Hx
  isplitl [Hs]; · iexact Hs
  isplitl [Ht]; · iexact Ht
  isplitl [Hr]; · iexact Hr
  isplitl [Hu]; · iexact Hu
  iexact Hv

theorem off_flying : iprop(each cps (atSend c) ∗ each cps (sent c)) ⊢ each cps (flying (F := F) c) := each_sep cps _ _

theorem recvSt_start : bigSep Finset.univ (coming (F := F) c) = bigSep Finset.univ (recvSt m c 1) :=
  bigSep_congr fun p _ => by unfold recvSt; rw [if_neg (by omega)]
theorem recvSt_end : bigSep Finset.univ (recvSt m c 16) = bigSep Finset.univ (come m c) :=
  bigSep_congr fun p _ => by
    have h1 := p.1.isLt; have h2 := p.2.isLt
    unfold recvSt; rw [if_pos (by omega)]
theorem recvSt_two : bigSep Finset.univ (recvSt m c 1) = bigSep Finset.univ (recvSt m c 2) :=
  bigSep_congr fun p _ => by unfold recvSt; rw [if_neg (by omega), if_neg (by omega)]
/-- A middle point `t` receives the piece `p`. -/
theorem recvSt_take (t : ℕ) (p : P) (h : t = 2 * (p.1.val + 1) + p.2.val) :
    bigSep Finset.univ (recvSt m c t) = iprop(coming c p ∗ bigSep (Finset.univ.erase p) (recvSt m c t)) := by
  rw [bigSep_univ_split p]; unfold recvSt; rw [if_neg (by omega)]; rfl
theorem recvSt_put (t : ℕ) (p : P) (h : t = 2 * (p.1.val + 1) + p.2.val) :
    iprop(come m c p ∗ bigSep (Finset.univ.erase p) (recvSt m c t)) = bigSep Finset.univ (recvSt m c (t + 1)) := by
  rw [bigSep_univ_split p (Φ := recvSt m c (t + 1))]
  have hp : recvSt m c (t + 1) p = come m c p := by unfold recvSt; rw [if_pos (by omega)]
  rw [hp, bigSep_congr (Φ := recvSt m c (t + 1)) (Ψ := recvSt m c t)]; · rfl
  intro q hq
  have hne : q ≠ p := (Finset.mem_erase.mp hq).1
  have h2 := q.2.isLt; have h3 := p.2.isLt
  have hv : 2 * (q.1.val + 1) + q.2.val ≠ t := fun e => hne (Prod.ext (Fin.ext (by omega)) (Fin.ext (by omega)))
  unfold recvSt
  by_cases hlt : 2 * (q.1.val + 1) + q.2.val < t
  · rw [if_pos hlt, if_pos (by omega)]
  · rw [if_neg hlt, if_neg (by omega)]

/-! ## The waits on received pieces and on the local copies -/

omit [FloatOps F] in
theorem recv_at (p : P) {off : Fin 2 → ℕ} (hoff : off = ![p.1.val, p.2.val]) (hin : ∀ a, off a + S1x1.size a ≤ S7x2.size a) :
    ((cc0_scratch2.slice (Rect.unit (s := S7x2) off S1x1.size hin)).squeeze S_ squeezes_S1x1_S_).sem = recvS p.1 p.2 := by
  subst hoff
  obtain ⟨i, s⟩ := p
  revert i s; decide

theorem recv_step (t : ℕ) (p : P) (h : t = 2 * (p.1.val + 1) + p.2.val)
    {sp sp' : Space} {s s' : Shape} {e e' : EltTy} {κ' : Kind} {sem : DmaSem sig} (hsem : sem = recvS p.1 p.2)
    {src : Memref sig (c : Thread nD τ).2.kind sp' s' e'} {dst : Memref sig κ' sp s e} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ bigSep Finset.univ (recvSt m c t) ∗ owesE c 0)
      ⊢ iprop(((slotGot m c p.1.castSucc p.2 ∗ (slotGot m c p.1.castSucc p.2 -∗ bigSep Finset.univ (recvSt m c (t + 1))) ∗ owesE c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  rw [recvSt_take m c t p h, ← recvSt_put m c t p h]
  unfold coming
  iintro ⟨#HR, ⟨⟨Hat, Hc⟩, Hrest⟩, HO⟩ Hk
  iapply (own_step m K c (recvK p.1 p.2) hsem hN) $$ [Hat Hc HO]
  · isplitr; · iexact HR
    isplitl [Hat]; · iexact Hat
    isplitl [Hc]; · iexact Hc
    iexact HO
  iintro ⟨Hz, Hp, HO⟩
  ihave Hp := (Entails.of_eq (rest_recv m c p.1 p.2)) $$ Hp
  iapply Hk
  isplitl [Hp]; · iexact Hp
  isplitl [Hz Hrest]
  · iintro Hp
    isplitl [Hz Hp]
    · unfold come; isplitl [Hp]; · iexact Hp
      iexact Hz
    iexact Hrest
  iexact HO

theorem local_wait (s : Fin 2)
    {sp sp' : Space} {s₁ s' : Shape} {e e' : EltTy} {κ' : Kind} {sem : DmaSem sig} (hsem : sem = localS s)
    {src : Memref sig (c : Thread nD τ).2.kind sp' s' e'} {dst : Memref sig κ' sp s₁ e} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ atPos ER (localCell c s) 0 ∅ 0 ∗ cred (tallyAt (localCell c s) () N) ∗ owesE c 0)
      ⊢ iprop(((ownDone m c s ∗ owesE c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  iintro ⟨#HR, Hat, Hc, HO⟩ Hk
  iapply (own_step m K c (localK s) hsem hN) $$ [Hat Hc HO]
  · isplitr; · iexact HR
    isplitl [Hat]; · iexact Hat
    isplitl [Hc]; · iexact Hc
    iexact HO
  iintro ⟨Hz, Hp, HO⟩
  ihave Hp := (Entails.of_eq (rest_local m c s)) $$ Hp
  icases Hp with ⟨Hs, Hx⟩
  iapply Hk
  isplitl [Hz Hs Hx]
  · unfold ownDone; isplitl [Hz]; · iexact Hz
    isplitl [Hs]; · iexact Hs
    iexact Hx
  iexact HO

end

end Cert.KernelIdeal.Talk

end
-- ==== Proof.Points.lean ====
/-
  The body at the four kinds of grid point: the first (the exchange is started), the second (the own block's other half), the
  middle ones (one received piece each) and the last (the result is clipped and the copies are seen off).
-/
module

public import proofs.«01_k».proof.Proof.Body

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)
variable (c : Dev nD) (i : grid0.Coords) (h1 : tM.IsWhole) (h2 : xM.IsWhole) (arg3 : Memref sig .tc .vmem S512x4096 .bf16) (h3 : arg3.IsWhole)
  (arg4 : Memref sig .tc .vmem S1024x4096 .f32) (h4 : arg4.IsWhole) (h5 : gM.IsWhole)

omit [FloatOps F] in
theorem zz {n : ℕ} : (![0, 0] : Fin 2 → ℕ) = fun _ => 0 := by funext a; revert a; decide

theorem part14 {Q : (Σ' (_ : BitVec 32) (_ : Dev nD) (_ : BitVec 32) (_ : BitVec 32) (_ : BitVec 32) (_ : BitVec 32) (_ : BitVec 1), BitVec 32) → sProp 𝕄} :
    (iprop(∀ a v2 a2 a3 a4 a5 a6, Q ⟨a, c, v2, a2, a3, a4, a5, a6⟩) : sProp 𝕄)
      ⊢ wp frame (wpE (defs₀ (F := F)) 𝒱₀ (c : Thread nD τ) none) Set.univ
          (k0_part14 i tM h1 xM h2 arg3 h3 arg4 h4 gM h5 cc0_scratch1 cc0_scratch2 cc0_scratch3) Q := by
  simp only [k0_part14_eq_skeleton]; unfold k0_part14_skel
  simp only [Prog.lift, Prog.bind_op, Prog.bind_ret, Prog.pure_eq_ret]
  iintro H
  rw [wp_deviceId, wp_ret]; imodintro; iapply H

theorem part9 (v2 : BitVec 32) (hc : k0_cond5 i = 1#1) (a : FVec F S1024x4096 .f32) (l : List P) {Q : (Σ' (_ : BitVec 32), BitVec 32) → sProp 𝕄} :
    iprop(records m K ∗ owns (c : Thread nD τ) arg4 fullShare a ∗ each ((0, 0) :: (0, 1) :: l) (flying c) ∗ owesE c 0)
      ⊢ iprop((∀ r, (owns (c : Thread nD τ) arg4 fullShare (k0_pay3 a)
              ∗ each ([] ++ [(0, 0)] ++ [(0, 1)]) (left m c) ∗ each l (flying c) ∗ owesE c 0) -∗ Q r)
        -∗ wp frame (wpE (defs₀ (F := F)) 𝒱₀ (c : Thread nD τ) none) Set.univ
          (k0_part9 i tM h1 xM h2 arg3 h3 arg4 h4 gM h5 cc0_scratch1 cc0_scratch2 cc0_scratch3 c v2 hc) Q) := by
  simp only [k0_part9_eq_skeleton]; unfold k0_part9_skel
  simp only [Prog.lift, Prog.bind_op, Prog.bind_ret, Prog.pure_eq_ret]
  iintro ⟨#HR, Ho, Hl, HO⟩ Hk
  iapply (load_whole c (zz (n := 0))) $$ Ho; iintro Ho
  iapply (load_whole c (zz (n := 0))) $$ Ho; iintro Ho
  iapply (store_whole c (zz (n := 0))) $$ Ho; iintro Ho
  iapply (left_step m K c (0, 0) [] _ send_00 (credit_x _ _ _)) $$ [Hl HO]
  · isplitr; · iexact HR
    isplitr; · unfold each; iempintro
    isplitl [Hl]; · iexact Hl
    iexact HO
  iintro H
  iapply (left_step m K c (0, 1) _ _ send_01 (credit_x _ _ _)) $$ [H]
  · isplitr; · iexact HR
    iexact H
  iintro H
  rw [wp_ret]; imodintro; iapply Hk
  isplitl [Ho]; · iexact Ho
  iexact H

/-! ## The points -/

abbrev theBody (i : grid0.Coords) (h1 : tM.IsWhole) (h2 : xM.IsWhole) (arg3 : Memref sig .tc .vmem S512x4096 .bf16) (h3 : arg3.IsWhole)
    (arg4 : Memref sig .tc .vmem S1024x4096 .f32) (h4 : arg4.IsWhole) (h5 : gM.IsWhole) : Prog (TpuEff nD τ sig (Elt F) Λ₀ .tc) PUnit :=
  cc0_body i tM h1 xM h2 arg3 h3 arg4 h4 gM h5 cc0_scratch1 cc0_scratch2 cc0_scratch3

section
variable (hc1 : ¬ k0_cond1 i = 1#1) (hc3 : ¬ k0_cond3 i = 1#1) (hc4 : k0_cond4 i = 1#1)

include hc1 hc3 hc4

/-- The second point: the own block's second half. -/
theorem point1 (hc2 : ¬ k0_cond2 i = 1#1) (hc5 : ¬ k0_cond5 i = 1#1) (hoff : k0_off8 i = slotOff 7 1)
    (w : S512x4096.Idx → Elt F .bf16) (a : FVec F S1024x4096 .f32) {Q : PUnit → sProp 𝕄} :
    iprop(records m K ∗ st m c 1 ∗ owesE c 0 ∗ owns (c : Thread nD τ) arg3 fullShare w ∗ owns (c : Thread nD τ) arg4 fullShare a)
      ⊢ iprop(((st m c 2 ∗ owesE c 0 ∗ owns (c : Thread nD τ) arg3 fullShare w
              ∗ owns (c : Thread nD τ) arg4 fullShare (addf a (mm w (got m c 7 1)) : FVec F S1024x4096 .f32)) -∗ Q ⟨⟩)
        -∗ wp frame (wpE (defs₀ (F := F)) 𝒱₀ (c : Thread nD τ) none) Set.univ (theBody i h1 h2 arg3 h3 arg4 h4 h5) Q) := by
  unfold theBody
  simp only [cc0_body_eq_skeleton]; unfold cc0_body_skel
  simp only [wp_bind]
  iintro ⟨#HR, Hst, HO, Hw, Ho⟩ Hk
  iapply (part14 c i h1 h2 arg3 h3 arg4 h4 h5)
  iintro %_ %v2 %_ %_ %_ %_ %_
  simp only [dif_neg hc1, dif_neg hc2, dif_neg hc3, dif_pos hc4, dif_neg hc5, Prog.lift, Prog.bind_op, Prog.bind_ret, Prog.pure_eq_ret, wp_ret, wp_bind]
  unfold st ownDone
  icases Hst with ⟨Hb, Hf, Hr, Ho0, ⟨Hz, Hg, Hx⟩⟩
  iapply (load_whole c (zz (n := 0))) $$ Hw; iintro Hw
  iapply (load_slot m c 7 1 hoff) $$ Hg; iintro %v %hv Hg
  iapply (load_whole c (zz (n := 0))) $$ Ho; iintro Ho
  iapply (load_whole c (zz (n := 0))) $$ Ho; iintro Ho
  iapply (store_whole c (zz (n := 0))) $$ Ho; iintro Ho
  rw [wp_ret]; imodintro
  rw [pay2_eq w v a _ hv, ← recvSt_two m c]
  iapply Hk
  isplitl [Hb Hf Hr Ho0 Hz Hg Hx]
  · isplitl [Hb]; · iexact Hb
    isplitl [Hf]; · iexact Hf
    isplitl [Hr]; · iexact Hr
    isplitl [Ho0]; · iexact Ho0
    isplitl [Hz]; · iexact Hz
    isplitl [Hg]; · iexact Hg
    iexact Hx
  isplitl [HO]; · iexact HO
  isplitl [Hw]; · iexact Hw
  iexact Ho

/-- A middle point: the piece `p`. -/
theorem point2 (t : ℕ) (p : P) (ht : t = 2 * (p.1.val + 1) + p.2.val)
    (hc2 : k0_cond2 i = 1#1) (hc5 : ¬ k0_cond5 i = 1#1) (hoff : k0_off8 i = slotOff p.1.castSucc p.2) (hoff6 : k0_off6 i = ![p.1.val, p.2.val])
    (w : S512x4096.Idx → Elt F .bf16) (a : FVec F S1024x4096 .f32) {Q : PUnit → sProp 𝕄} :
    iprop(records m K ∗ st m c t ∗ owesE c 0 ∗ owns (c : Thread nD τ) arg3 fullShare w ∗ owns (c : Thread nD τ) arg4 fullShare a)
      ⊢ iprop(((st m c (t + 1) ∗ owesE c 0 ∗ owns (c : Thread nD τ) arg3 fullShare w
              ∗ owns (c : Thread nD τ) arg4 fullShare (addf a (mm w (got m c p.1.castSucc p.2)) : FVec F S1024x4096 .f32)) -∗ Q ⟨⟩)
        -∗ wp frame (wpE (defs₀ (F := F)) 𝒱₀ (c : Thread nD τ) none) Set.univ (theBody i h1 h2 arg3 h3 arg4 h4 h5) Q) := by
  unfold theBody
  simp only [cc0_body_eq_skeleton]; unfold cc0_body_skel
  simp only [wp_bind]
  iintro ⟨#HR, Hst, HO, Hw, Ho⟩ Hk
  iapply (part14 c i h1 h2 arg3 h3 arg4 h4 h5)
  iintro %_ %v2 %_ %_ %_ %_ %_
  simp only [dif_neg hc1, dif_pos hc2, dif_neg hc3, dif_pos hc4, dif_neg hc5, Prog.lift, Prog.bind_op, Prog.bind_ret, Prog.pure_eq_ret, wp_ret, wp_bind]
  unfold st
  icases Hst with ⟨Hb, Hf, Hr, Hl⟩
  iapply (recv_step m K c t p ht (recv_at p hoff6 _) (credit_g _ _ _ _)) $$ [Hr HO]
  · isplitr; · iexact HR
    isplitl [Hr]; · iexact Hr
    iexact HO
  iintro ⟨Hg, Hback, HO⟩
  iapply (load_whole c (zz (n := 0))) $$ Hw; iintro Hw
  iapply (load_slot m c p.1.castSucc p.2 hoff) $$ Hg; iintro %v %hv Hg
  iapply (load_whole c (zz (n := 0))) $$ Ho; iintro Ho
  iapply (load_whole c (zz (n := 0))) $$ Ho; iintro Ho
  iapply (store_whole c (zz (n := 0))) $$ Ho; iintro Ho
  rw [wp_ret]; imodintro
  rw [pay2_eq w v a _ hv]
  iapply Hk
  isplitl [Hb Hf Hback Hg Hl]
  · isplitl [Hb]; · iexact Hb
    isplitl [Hf]; · iexact Hf
    isplitl [Hback Hg]; · iapply Hback; iexact Hg
    iexact Hl
  isplitl [HO]; · iexact HO
  isplitl [Hw]; · iexact Hw
  iexact Ho

/-- The last point: the last piece, the result clipped, and every copy seen off. -/
theorem point3 (hc2 : k0_cond2 i = 1#1) (hc5 : k0_cond5 i = 1#1) (hoff : k0_off8 i = slotOff (6 : Fin 7).castSucc 1) (hoff6 : k0_off6 i = ![6, 1])
    (w : S512x4096.Idx → Elt F .bf16) (a : FVec F S1024x4096 .f32) {Q : PUnit → sProp 𝕄} :
    iprop(records m K ∗ st m c 15 ∗ owesE c 0 ∗ owns (c : Thread nD τ) arg3 fullShare w ∗ owns (c : Thread nD τ) arg4 fullShare a)
      ⊢ iprop(((stEnd m c ∗ owesE c 0 ∗ owns (c : Thread nD τ) arg3 fullShare w
              ∗ owns (c : Thread nD τ) arg4 fullShare (k0_pay3 (addf a (mm w (got m c (6 : Fin 7).castSucc 1)) : FVec F S1024x4096 .f32))) -∗ Q ⟨⟩)
        -∗ wp frame (wpE (defs₀ (F := F)) 𝒱₀ (c : Thread nD τ) none) Set.univ (theBody i h1 h2 arg3 h3 arg4 h4 h5) Q) := by
  unfold theBody
  simp only [cc0_body_eq_skeleton]; unfold cc0_body_skel
  simp only [wp_bind]
  iintro ⟨#HR, Hst, HO, Hw, Ho⟩ Hk
  iapply (part14 c i h1 h2 arg3 h3 arg4 h4 h5)
  iintro %_ %v2 %_ %_ %_ %_ %_
  simp only [dif_neg hc1, dif_pos hc2, dif_neg hc3, dif_pos hc4, dif_pos hc5, Prog.lift, Prog.bind_op, Prog.bind_ret, Prog.pure_eq_ret, wp_ret, wp_bind]
  unfold st
  icases Hst with ⟨Hb, Hf, Hr, Hl⟩
  iapply (recv_step m K c 15 (6, 1) rfl (recv_at (6, 1) hoff6 _) (credit_g _ _ _ _)) $$ [Hr HO]
  · isplitr; · iexact HR
    isplitl [Hr]; · iexact Hr
    iexact HO
  iintro ⟨Hg, Hback, HO⟩
  iapply (load_whole c (zz (n := 0))) $$ Hw; iintro Hw
  iapply (load_slot m c (6 : Fin 7).castSucc 1 hoff) $$ Hg; iintro %v %hv Hg
  iapply (load_whole c (zz (n := 0))) $$ Ho; iintro Ho
  iapply (load_whole c (zz (n := 0))) $$ Ho; iintro Ho
  iapply (store_whole c (zz (n := 0))) $$ Ho; iintro Ho
  simp only [wp_bind]
  rw [pay2_eq w v a _ hv]
  iapply (part9 m K c i h1 h2 arg3 h3 arg4 h4 h5 v2 hc5 _ _) $$ [Ho Hf HO]
  · isplitr; · iexact HR
    isplitl [Ho]; · iexact Ho
    isplitl [Hf]; · iexact Hf
    iexact HO
  iintro %_ ⟨Ho, H⟩
  iapply (part10 m K c i h1 h2 arg3 h3 arg4 h4 h5 v2 _ _ hc5 _ _) $$ [H]
  · isplitr; · iexact HR
    iexact H
  iintro %_ H
  iapply (part11 m K c i h1 h2 arg3 h3 arg4 h4 h5 v2 _ _ hc5 _ _) $$ [H]
  · isplitr; · iexact HR
    iexact H
  iintro %_ H
  iapply (part12 m K c i h1 h2 arg3 h3 arg4 h4 h5 v2 _ hc5 _ _) $$ [H]
  · isplitr; · iexact HR
    iexact H
  iintro %_ H
  iapply (part13 m K c i h1 h2 arg3 h3 arg4 h4 h5 v2 _ hc5 _ _) $$ [H]
  · isplitr; · iexact HR
    iexact H
  iintro %_ H
  iapply (left_step m K c (6, 1) _ _ send_61 (credit_x _ _ _)) $$ [H]
  · isplitr; · iexact HR
    iexact H
  iintro ⟨Hf, -, HO⟩
  simp only [wp_ret]; imodintro
  iapply Hk
  isplitl [Hb Hf Hback Hg Hl]
  · unfold stEnd
    isplitl [Hb]; · iexact Hb
    isplitl [Hf]; · iexact Hf
    isplitl [Hback Hg]
    · rw [← recvSt_end]; iapply Hback; iexact Hg
    iexact Hl
  isplitl [HO]; · iexact HO
  isplitl [Hw]; · iexact Hw
  iexact Ho
end

/-- The first point: the handshake, every copy started, the own block's first half. -/
theorem point0 (hc1 : k0_cond1 i = 1#1) (hc2 : ¬ k0_cond2 i = 1#1) (hc3 : k0_cond3 i = 1#1) (hc4 : ¬ k0_cond4 i = 1#1) (hc5 : ¬ k0_cond5 i = 1#1)
    (hoff : k0_off8 i = slotOff 7 0) (w : S512x4096.Idx → Elt F .bf16) (a : FVec F S1024x4096 .f32) {Q : PUnit → sProp 𝕄} :
    iprop(records m K ∗ st0 m c ∗ owesE c (O₀ c) ∗ owns (c : Thread nD τ) arg3 fullShare w ∗ owns (c : Thread nD τ) arg4 fullShare a)
      ⊢ iprop(((st m c 1 ∗ owesE c 0 ∗ owns (c : Thread nD τ) arg3 fullShare w
              ∗ owns (c : Thread nD τ) arg4 fullShare (mm w (got m c 7 0))) -∗ Q ⟨⟩)
        -∗ wp frame (wpE (defs₀ (F := F)) 𝒱₀ (c : Thread nD τ) none) Set.univ (theBody i h1 h2 arg3 h3 arg4 h4 h5) Q) := by
  unfold theBody
  simp only [cc0_body_eq_skeleton]; unfold cc0_body_skel
  simp only [wp_bind]
  iintro ⟨#HR, Hst, HO, Hw, Ho⟩ Hk
  iapply (part14 c i h1 h2 arg3 h3 arg4 h4 h5)
  iintro %_ %v2 %_ %_ %_ %_ %_
  simp only [dif_pos hc1, dif_neg hc2, dif_pos hc3, dif_neg hc4, dif_neg hc5, Prog.lift, Prog.bind_op, Prog.bind_ret, Prog.pure_eq_ret, wp_ret, wp_bind]
  unfold st0
  icases Hst with ⟨Hat, Hc, Hsig, ⟨Hun, Has⟩, Hr, ⟨Hl0, Ha0⟩, ⟨Hl1, Ha1⟩⟩
  iapply (part1 m K c i h1 h2 arg3 h3 arg4 h4 h5 v2 hc1) $$ [Hsig HO]
  · isplitr; · iexact HR
    isplitl [Hsig]; · iexact Hsig
    iexact HO
  iintro H
  iapply (part2 m K c i h1 h2 arg3 h3 arg4 h4 h5 v2 hc1) $$ [H Hat Hc Hl0 Hl1]
  · isplitr; · iexact HR
    isplitl [H]; · iexact H
    isplitl [Hat]; · iexact Hat
    isplitl [Hc]; · iexact Hc
    isplitl [Hl0]; · iexact Hl0
    iexact Hl1
  iintro %_ ⟨Hb, Hp, HO, Hc0, Hc1⟩
  ihave Hp := (Entails.of_eq (rooms c)) $$ Hp
  ihave Ht := (ready m c) $$ [Hun Hp]
  · isplitl [Hun]; · iexact Hun
    iexact Hp
  iapply (part3 m K c i h1 h2 arg3 h3 arg4 h4 h5 v2 _ hc1 [] _) $$ [Ht HO]
  · isplitr; · iexact HR
    isplitr; · unfold each; iempintro
    isplitl [Ht]; · iexact Ht
    iexact HO
  iintro %_ H
  iapply (part4 m K c i h1 h2 arg3 h3 arg4 h4 h5 v2 _ hc1 _ _) $$ [H]
  · isplitr; · iexact HR
    iexact H
  iintro %_ H
  iapply (part5 m K c i h1 h2 arg3 h3 arg4 h4 h5 v2 _ hc1 _ _) $$ [H]
  · isplitr; · iexact HR
    iexact H
  iintro %_ H
  iapply (part6 m K c i h1 h2 arg3 h3 arg4 h4 h5 v2 _ hc1 _ _) $$ [H]
  · isplitr; · iexact HR
    iexact H
  iintro %_ H
  iapply (part7 m K c i h1 h2 arg3 h3 arg4 h4 h5 v2 _ hc1 _ _) $$ [H]
  · isplitr; · iexact HR
    iexact H
  iintro %_ H
  iapply (part8 m K c i h1 h2 arg3 h3 arg4 h4 h5 v2 hc1 _ _) $$ [H]
  · isplitr; · iexact HR
    iexact H
  iintro %_ ⟨Hs, -, HO⟩
  ihave Hf := (off_flying c) $$ [Has Hs]
  · isplitl [Has]; · iexact Has
    iexact Hs
  iapply (local_wait m K c 0 local_0 (credit_g _ _ _ _)) $$ [Ha0 Hc0 HO]
  · isplitr; · iexact HR
    isplitl [Ha0]; · iexact Ha0
    isplitl [Hc0]; · iexact Hc0
    iexact HO
  iintro ⟨Hd0, HO⟩
  iapply (local_wait m K c 1 local_1 (credit_g _ _ _ _)) $$ [Ha1 Hc1 HO]
  · isplitr; · iexact HR
    isplitl [Ha1]; · iexact Ha1
    isplitl [Hc1]; · iexact Hc1
    iexact HO
  iintro ⟨Hd1, HO⟩
  unfold ownDone
  icases Hd0 with ⟨Hz, Hg, Hx⟩
  iapply (load_whole c (zz (n := 0))) $$ Hw; iintro Hw
  iapply (load_slot m c 7 0 hoff) $$ Hg; iintro %v %hv Hg
  iapply (load_whole c (zz (n := 0))) $$ Ho; iintro Ho
  iapply (store_whole c (zz (n := 0))) $$ Ho; iintro Ho
  simp only [wp_ret]; imodintro
  rw [pay1_eq w v _ hv]
  iapply Hk
  isplitl [Hb Hf Hr Hz Hg Hx Hd1]
  · unfold st ownDone
    rw [← recvSt_start m c]
    isplitl [Hb]; · iexact Hb
    isplitl [Hf]; · iexact Hf
    isplitl [Hr]; · iexact Hr
    isplitl [Hz Hg Hx]
    · isplitl [Hz]; · iexact Hz
      isplitl [Hg]; · iexact Hg
      iexact Hx
    iexact Hd1
  isplitl [HO]; · iexact HO
  isplitl [Hw]; · iexact Hw
  iexact Ho

end Cert.KernelIdeal.Talk

end
-- ==== Proof.Table.lean ====
/-
  The table that each device computes before the kernel: entry `t` of device `c` names the block of the weights' rows which grid
  point `t` multiplies. Point `t` works on the piece that came from device `c - t / 2`, its half `t % 2`.
-/
module

public import proofs.«01_k».proof.Proof.Points
public import Idealize.ShloMosaic.Lib.StableHlo.ReadAt
public import Idealize.ShloMosaic.Lib.Tactic.WordOmega

@[expose] public section

noncomputable section

namespace Cert.KernelIdeal.Talk

open Idealize.ShloMosaic
open Idealize.ShloMosaic.TcCoe
open Cert.KernelIdeal Cert.KernelIdeal.Gen

variable {F : FTy → Type} [FloatOps F]
variable (m : (ℓ : Loc nD τ sig) → Buf (Elt F) ℓ)

/-- The device whose columns point `t` of device `c` works on. -/
def src (c : Dev nD) (t : ℕ) : Dev nD := ⟨(c.val + 8 - t / 2 % 8) % 8, Nat.mod_lt _ (by decide)⟩

/-- The row block of the weights at point `t` of device `c`. -/
def wrow (c : Dev nD) (t : ℕ) : ℕ := 2 * (src c t).val + t % 2

/-! ## The host's operations, one stretch at a time -/

variable (W : Valuation τ sig (Elt F))

theorem host0_4 (c : Dev nD) (j : S_.Idx) : (StableHlo.after (hostOps0 c) W main_v4 : main_v4.ty.Contents (Elt F)) j = BitVec.ofNat 32 c.val := by
  after_reads_at
  show IntOp.remui .host (IntOp.divui .host c.word 1#32) 8#32 = _
  revert c; decide

theorem host0_5 (c : Dev nD) (j : S16.Idx) : (StableHlo.after (hostOps0 c) W main_v5 : main_v5.ty.Contents (Elt F)) j = BitVec.ofNat 32 (j 0).val := by
  after_reads_at

theorem host0_c1 (c : Dev nD) (j : S_.Idx) : (StableHlo.after (hostOps0 c) W main_c_1 : main_c_1.ty.Contents (Elt F)) j = 2#32 := by
  after_reads_at

theorem host1_6 (h5 : ∀ j : S16.Idx, (W main_v5 : main_v5.ty.Contents (Elt F)) j = BitVec.ofNat 32 (j 0).val)
    (h1 : ∀ j : S_.Idx, (W main_c_1 : main_c_1.ty.Contents (Elt F)) j = 2#32) (j : S16.Idx) :
    (StableHlo.after hostOps0_1 W main_v6 : main_v6.ty.Contents (Elt F)) j = BitVec.ofNat 32 ((j 0).val / 2) := by
  after_reads_at
  simp only [id, h5, h1]
  clear h5 h1
  generalize (j 0 : Fin 16) = t
  revert t; decide

theorem host2_8 (c : Dev nD) (h4 : ∀ j : S_.Idx, (W main_v4 : main_v4.ty.Contents (Elt F)) j = BitVec.ofNat 32 c.val)
    (h6 : ∀ j : S16.Idx, (W main_v6 : main_v6.ty.Contents (Elt F)) j = BitVec.ofNat 32 ((j 0).val / 2)) (j : S16.Idx) :
    (StableHlo.after hostOps0_2 W main_v8 : main_v8.ty.Contents (Elt F)) j = BitVec.ofNat 32 c.val - BitVec.ofNat 32 ((j 0).val / 2) := by
  after_reads_at
  rw [h6, h4]
  rfl

theorem host2_c2 (j : S_.Idx) : (StableHlo.after hostOps0_2 W main_c_2 : main_c_2.ty.Contents (Elt F)) j = 8#32 := by
  after_reads_at

theorem host3_9 (c : Dev nD)
    (h8 : ∀ j : S16.Idx, (W main_v8 : main_v8.ty.Contents (Elt F)) j = BitVec.ofNat 32 c.val - BitVec.ofNat 32 ((j 0).val / 2))
    (h2 : ∀ j : S_.Idx, (W main_c_2 : main_c_2.ty.Contents (Elt F)) j = 8#32) (j : S16.Idx) :
    (StableHlo.after hostOps0_3 W main_v9 : main_v9.ty.Contents (Elt F)) j = BitVec.ofNat 32 (src c (j 0).val).val := by
  after_reads_at
  simp only [id, h8, h2]
  clear h8 h2
  generalize (j 0 : Fin 16) = t
  revert c t; decide

theorem host4_11 (c : Dev nD)
    (h9 : ∀ j : S16.Idx, (W main_v9 : main_v9.ty.Contents (Elt F)) j = BitVec.ofNat 32 (src c (j 0).val).val) (j : S16.Idx) :
    (StableHlo.after hostOps0_4 W main_v11 : main_v11.ty.Contents (Elt F)) j = BitVec.ofNat 32 (2 * (src c (j 0).val).val) := by
  after_reads_at
  rw [h9]
  clear h9
  generalize (j 0 : Fin 16) = t
  revert c t; decide

theorem host4_c4 (j : S_.Idx) : (StableHlo.after hostOps0_4 W main_c_4 : main_c_4.ty.Contents (Elt F)) j = 2#32 := by
  after_reads_at

theorem host5_12 (h5 : ∀ j : S16.Idx, (W main_v5 : main_v5.ty.Contents (Elt F)) j = BitVec.ofNat 32 (j 0).val)
    (h4 : ∀ j : S_.Idx, (W main_c_4 : main_c_4.ty.Contents (Elt F)) j = 2#32) (j : S16.Idx) :
    (StableHlo.after hostOps0_5 W main_v12 : main_v12.ty.Contents (Elt F)) j = BitVec.ofNat 32 ((j 0).val % 2) := by
  after_reads_at
  simp only [id, h5, h4]
  clear h5 h4
  generalize (j 0 : Fin 16) = t
  revert t; decide

theorem host6_13 (c : Dev nD)
    (h11 : ∀ j : S16.Idx, (W main_v11 : main_v11.ty.Contents (Elt F)) j = BitVec.ofNat 32 (2 * (src c (j 0).val).val))
    (h12 : ∀ j : S16.Idx, (W main_v12 : main_v12.ty.Contents (Elt F)) j = BitVec.ofNat 32 ((j 0).val % 2)) (j : S16.Idx) :
    (StableHlo.after hostOps0_6 W main_v13 : main_v13.ty.Contents (Elt F)) j = BitVec.ofNat 32 (wrow c (j 0).val) := by
  after_reads_at
  rw [h11, h12]
  clear h11 h12
  generalize (j 0 : Fin 16) = t
  revert c t; decide

/-- What the host leaves in the table. -/
theorem table_at (c : Dev nD) (j : S16.Idx) : (V7 m c main_v13 : main_v13.ty.Contents (Elt F)) j = BitVec.ofNat 32 (wrow c (j 0).val) :=
  host6_13 (V6 m c) c
    (fun j => (congrFun (V6_of m c main_v11 (by decide) : (V6 m c main_v11 : main_v11.ty.Contents (Elt F)) = V5 m c main_v11) j).trans
      (host4_11 (V4 m c) c (fun j => host3_9 (V3 m c) c
        (fun j => host2_8 (V2 m c) c
          (fun j => (congrFun (V2_of m c main_v4 (by decide) : (V2 m c main_v4 : main_v4.ty.Contents (Elt F)) = V1 m c main_v4) j).trans (host0_4 _ c j))
          (fun j => host1_6 (V1 m c) (host0_5 _ c) (host0_c1 _ c) j) j)
        (fun j => host2_c2 (V2 m c) j) j) j))
    (fun j => host5_12 (V5 m c)
      (fun j => (congrFun ((V5_of m c main_v5 (by decide)).trans ((V4_of m c main_v5 (by decide)).trans ((V3_of m c main_v5 (by decide)).trans
        (V2_of m c main_v5 (by decide)))) : (V5 m c main_v5 : main_v5.ty.Contents (Elt F)) = V1 m c main_v5) j).trans (host0_5 _ c j))
      (host4_c4 (V4 m c)) j) j

/-! ## The table as the region takes it -/

/-- The table of device `c`. -/
def tbl (c : Dev nD) : pre0.Contents (Elt F) := fun
  | 0 => ((fun j => BitVec.ofNat 32 (wrow c (j 0).val)) : (⟨S16, .i32⟩ : BufTy).Contents (Elt F))

theorem tbl_eq (c : Dev nD) : (tbl c : pre0.Contents (Elt F)) 0 = (V7 m c main_v13 : main_v13.ty.Contents (Elt F)) :=
  funext fun j => (table_at m c j).symm

theorem wrow_lt (c : Dev nD) (t : Fin 16) : wrow c t.val < 16 := by revert c t; decide

/-- The block that point `i` of device `c` fetches. -/
theorem transform_tbl (c : Dev nD) (i : grid0.Coords) :
    cc0_transform_1 k0_off1_inb numel1_S1 (tbl c : pre0.Contents (Elt F)) i = ![wrow c (i 0).val, 0] := by
  have h : ∀ t : Fin 16, (BitVec.ofNat 32 (wrow c t.val)).toNat = wrow c t.val := by revert c; decide
  have h1 : ∀ t : Fin 16, (Scalar.indexCast (BitVec.ofNat 32 t.val) : Index).toNat = t.val := by decide
  unfold cc0_transform_1
  show ![(BitVec.ofNat 32 (wrow c ((Rect.unit (s := S16) ![(Scalar.indexCast (BitVec.ofNat 32 (i 0).val) : Index).toNat] S1.size (k0_off1_inb i)).emb
    (Shape.Idx.first (numel1_S1.symm ▸ Nat.one_pos)) 0).val)).toNat, 0] = _
  have h2 : ((Rect.unit (s := S16) ![(Scalar.indexCast (BitVec.ofNat 32 (i 0).val) : Index).toNat] S1.size (k0_off1_inb i)).emb
    (Shape.Idx.first (numel1_S1.symm ▸ Nat.one_pos)) 0).val = (i 0).val := by
    show (Scalar.indexCast (BitVec.ofNat 32 (i 0).val) : Index).toNat + 0 * 1 = _
    rw [Nat.zero_mul, Nat.add_zero]
    exact h1 (i 0)
  rw [h2, show (BitVec.ofNat 32 (wrow c (i 0).val)).toNat = wrow c (i 0).val from h (i 0)]

theorem ok_tbl (c : Dev nD) : ok0 (tbl c : pre0.Contents (Elt F)) := by
  intro i
  have hi : ∀ a, (cc0_transform_1 k0_off1_inb numel1_S1 (tbl c : pre0.Contents (Elt F)) i a + 1) * S512x4096.size a ≤ S8192x4096.size a := by
    have := wrow_lt c (i 0)
    rw [transform_tbl]
    intro a
    fin_cases a
    · show (wrow c (i 0).val + 1) * 512 ≤ 8192
      omega
    · show (0 + 1) * 4096 ≤ 4096
      omega
  refine ⟨hi, Or.inr (Affine.block_words_dvd (by decide) (by decide))⟩

end Cert.KernelIdeal.Talk
-- ==== Proof.Pieces.lean ====
/-
  The two buffers of the exchange cut into the pieces that the copies move, and put together again: `x`, whose piece `(k, s)` is the
  source of slot `(k, s)` of the device `k + 1` places on, and the landing buffer, whose piece `(k, s)` is that slot. With them, what
  a device brings to its first grid point and what it takes from its last.
-/
module

public import proofs.«01_k».proof.Proof.Table
public import Idealize.ShloMosaic.Lib.Ring.FamCut
public import Idealize.ShloMosaic.Lib.ReshapeSlab

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Sixteen slots and thirty semaphores, by kind -/

abbrev S : Type := Fin 8 × Fin 2

def slotE : P ⊕ Fin 2 ≃ S :=
  Equiv.ofBijective (Sum.elim (fun p : P => ((p.1.castSucc, p.2) : S)) (fun s => (7, s))) (by decide)
def ownE : P ⊕ (P ⊕ Fin 2) ≃ Fin 30 :=
  Equiv.ofBijective (Sum.elim (fun p : P => sendK p.1 p.2) (Sum.elim (fun p : P => recvK p.1 p.2) localK)) (by decide)

omit [FloatOps F] in
theorem univ_slots (Φ : S → sProp 𝕄) : bigSep Finset.univ Φ
    = iprop((bigSep Finset.univ fun p : P => Φ (p.1.castSucc, p.2)) ∗ Φ (7, 0) ∗ Φ (7, 1)) := by
  rw [bigSep_univ_equiv slotE, bigSep_univ_sum, bigSep_fin_two]; rfl
omit [FloatOps F] in
theorem univ_own (Φ : Fin 30 → sProp 𝕄) : bigSep Finset.univ Φ
    = iprop((bigSep Finset.univ fun p : P => Φ (sendK p.1 p.2)) ∗ (bigSep Finset.univ fun p : P => Φ (recvK p.1 p.2)) ∗ Φ (localK 0) ∗ Φ (localK 1)) := by
  rw [bigSep_univ_equiv ownE, bigSep_univ_sum, bigSep_univ_sum, bigSep_fin_two]; rfl
omit [FloatOps F] in
/-- Pieces two by two, the pairs in the opposite order. -/
theorem univ_rev (Φ : P → sProp 𝕄) : bigSep Finset.univ Φ = bigSep Finset.univ fun i : Fin 7 => iprop(Φ (i.rev, 0) ∗ Φ (i.rev, 1)) := by
  rw [bigSep_univ_prod, bigSep_univ_equiv Fin.revPerm]
  exact bigSep_congr fun i _ => bigSep_fin_two _

/-! ## The pieces of a buffer -/

section Cut

variable (c : Dev nD)

abbrev xLoc : Loc nD τ sig := (c : Thread nD τ).loc main_arg0
abbrev gLoc : Loc nD τ sig := (c : Thread nD τ).loc cc0_scratch0
def xI (p : S) : Finset (Idx (xLoc c)) := (srcM (tgt c p.1) p.2).view.set
def gI (p : S) : Finset (Idx (gLoc c)) := (slotM p.1 p.2).view.set

theorem xI_disj (p q : S) (h : p ≠ q) : Disjoint (xI c p) (xI c q) := by
  unfold xI
  by_cases hd : tgt c p.1 = tgt c q.1
  · have hs : p.2.val ≠ q.2.val := fun e => h (Prod.ext ((shift_inj c) hd) (Fin.ext e))
    refine View.disjoint_slice_of_sep xM.view (srcR _ _) (srcR _ _) (1 : Fin 2) rfl rfl ?_
    show p.2.val * 512 + 512 ≤ q.2.val * 512 ∨ q.2.val * 512 + 512 ≤ p.2.val * 512
    omega
  · have hd' : (tgt c p.1).val ≠ (tgt c q.1).val := fun e => hd (Fin.ext e)
    refine View.disjoint_slice_of_sep xM.view (srcR _ _) (srcR _ _) (0 : Fin 2) rfl rfl ?_
    show (tgt c p.1).val * 1024 + 1024 ≤ (tgt c q.1).val * 1024 ∨ (tgt c q.1).val * 1024 + 1024 ≤ (tgt c p.1).val * 1024
    omega
where shift_inj (c : Dev nD) : Function.Injective fun k => tgt c k := by revert c; decide

theorem gI_disj (p q : S) (h : p ≠ q) : Disjoint (gI c p) (gI c q) := by
  unfold gI
  rw [show (slotM p.1 p.2).view.set = (gM.view.slice (slotR p.1 p.2)).set from Memref.set_view_squeeze _ _,
    show (slotM q.1 q.2).view.set = (gM.view.slice (slotR q.1 q.2)).set from Memref.set_view_squeeze _ _]
  by_cases hk : p.1 = q.1
  · have hs : p.2.val ≠ q.2.val := fun e => h (Prod.ext hk (Fin.ext e))
    refine View.disjoint_slice_of_sep gM.view (slotR _ _) (slotR _ _) (1 : Fin 4) rfl rfl ?_
    show p.2.val + 1 ≤ q.2.val ∨ q.2.val + 1 ≤ p.2.val
    omega
  · have hk' : p.1.val ≠ q.1.val := fun e => hk (Fin.ext e)
    refine View.disjoint_slice_of_sep gM.view (slotR _ _) (slotR _ _) (0 : Fin 4) rfl rfl ?_
    show p.1.val + 1 ≤ q.1.val ∨ q.1.val + 1 ≤ p.1.val
    omega

/-- The elements of `x`, and of the landing buffer, in no piece. -/
def xRest : sProp 𝕄 := xLoc c ↦[Ring.restOf (xI c)]{fullShare} xIn m c
def gRest : sProp 𝕄 := iprop(∃ f, gLoc c ↦[Ring.restOf (gI c)]{fullShare} f)

theorem x_split : (xLoc c ↦{fullShare} xIn m c : sProp 𝕄) ⊢ iprop((bigSep Finset.univ fun p : S => xPc m c p.1 p.2) ∗ xRest m c) :=
  Ring.fam_split (xI c) (xI_disj c) (xIn m c)
theorem x_join : iprop((bigSep Finset.univ fun p : S => xPc m c p.1 p.2) ∗ xRest m c) ⊢ (xLoc c ↦{fullShare} xIn m c : sProp 𝕄) := by
  show iprop((bigSep Finset.univ fun p : S => (xLoc c ↦[xI c p]{fullShare} xIn m c : sProp 𝕄)) ∗ xRest m c) ⊢ _
  rw [← pointsTo_biUnion Finset.univ (xI c) (fun b _ b' _ h => xI_disj c b b' h)]
  exact (pointsTo_split_subset (Finset.subset_univ _)).2
theorem g_split : (iprop(∃ f, gLoc c ↦{fullShare} f) : sProp 𝕄) ⊢ iprop((bigSep Finset.univ fun p : S => slotAny c p.1 p.2) ∗ gRest c) :=
  Ring.fam_split_ex (gI c) (gI_disj c)
theorem g_join : iprop((bigSep Finset.univ fun p : S => slotAny c p.1 p.2) ∗ gRest c) ⊢ (iprop(∃ f, gLoc c ↦{fullShare} f) : sProp 𝕄) := by
  exact Ring.fam_join (gI c) (gI_disj c) (fun _ => Classical.arbitrary _)

theorem slotGot_any (k : Fin 8) (s : Fin 2) : slotGot m c k s ⊢ slotAny c k s := by
  unfold slotGot slotAny owns slotPts
  iintro ⟨%f, -, H⟩
  iexists f; iexact H

end Cut

/-! ## From the region's entry to the first point -/

section Ends

variable (c : Dev nD)

/-- The device's own semaphores, opened. -/
def opened : sProp 𝕄 := bigSep Finset.univ fun k : Fin 30 => iprop(atPos ER (ownCell c k) 0 ∅ 0 ∗ reached ER (ownCell c k) 0)
/-- The payments the device will make. -/
def toks : sProp 𝕄 :=
  iprop((bigSep Finset.univ fun i : Fin 7 => dutyTok ER (barCell (tgt c i.castSucc)) 0 i.rev)
    ∗ (bigSep Finset.univ fun p : P => dutyTok ER (sendCell c p.1 p.2) 0 0)
    ∗ (bigSep Finset.univ fun p : P => dutyTok ER (recvCell (tgt c p.1.castSucc) p.1 p.2) 0 0)
    ∗ dutyTok ER (localCell c 0) 0 0 ∗ dutyTok ER (localCell c 1) 0 0)
/-- The payments the device will receive. -/
def creds : sProp 𝕄 :=
  iprop(cred (tallyAt (barCell c) () 7) ∗ bigSep Finset.univ fun p : P => cred (tallyAt (recvCell c p.1 p.2) () N))

theorem st0_intro : iprop(atPos ER (barCell c) 0 ∅ 0 ∗ opened c ∗ toks c ∗ creds c
      ∗ (bigSep Finset.univ fun p : S => xPc m c p.1 p.2) ∗ (bigSep Finset.univ fun p : S => slotAny (F := F) c p.1 p.2))
    ⊢ st0 m c := by
  unfold opened toks creds st0
  rw [univ_own, univ_slots (fun p : S => xPc m c p.1 p.2), univ_slots (fun p : S => slotAny (F := F) c p.1 p.2)]
  rw [bigSep_sep' (Φ := fun p : P => atPos ER (sendCell c p.1 p.2) 0 ∅ 0), bigSep_sep' (Φ := fun p : P => atPos ER (recvCell c p.1 p.2) 0 ∅ 0)]
  iintro ⟨Hb, ⟨⟨Hsa, Hsr⟩, ⟨Hra, Hrr⟩, ⟨Hla, Hlr⟩, Hma, Hmr⟩, ⟨Ht, Hts, Htr, Htl, Htm⟩, ⟨Hcb, Hcr⟩, ⟨Hx, Hx0, Hx1⟩, Hg, Hg0, Hg1⟩
  isplitl [Hb]; · iexact Hb
  isplitl [Hcb]; · iexact Hcb
  isplitl [Ht Hg Hrr]
  · rw [← sigs_univ]
    ihave H := (Entails.of_eq ((bigSep_sep' _ _ _).symm.trans (univ_rev (fun p : P => iprop(slotAny (F := F) c p.1.castSucc p.2 ∗ reached ER (recvCell c p.1 p.2) 0))))) $$ [Hg Hrr]
    · isplitl [Hg] <;> iassumption
    ihave H := (Entails.of_eq (bigSep_sep' _ _ _).symm) $$ [Ht H]
    · isplitl [Ht] <;> iassumption
    iexact H
  isplitl [Hx Hts Hsr Htr Hsa]
  · rw [← cps_univ, ← cps_univ]
    isplitr [Hsa]
    · ihave H := (Entails.of_eq (bigSep_sep' _ _ _).symm) $$ [Hsr Htr]
      · isplitl [Hsr] <;> iassumption
      ihave H := (Entails.of_eq (bigSep_sep' _ _ _).symm) $$ [Hts H]
      · isplitl [Hts] <;> iassumption
      ihave H := (Entails.of_eq (bigSep_sep' _ _ _).symm) $$ [Hx H]
      · isplitl [Hx] <;> iassumption
      iexact H
    · iexact Hsa
  isplitl [Hra Hcr]
  · ihave H := (Entails.of_eq (bigSep_sep' _ _ _).symm) $$ [Hra Hcr]
    · isplitl [Hra] <;> iassumption
    iexact H
  unfold ltodo
  isplitl [Hx0 Hg0 Htl Hlr Hla]
  · isplitr [Hla]
    · isplitl [Hx0]; · iexact Hx0
      isplitl [Hg0]; · iexact Hg0
      isplitl [Htl]; · iexact Htl
      iexact Hlr
    · iexact Hla
  · isplitr [Hma]
    · isplitl [Hx1]; · iexact Hx1
      isplitl [Hg1]; · iexact Hg1
      isplitl [Htm]; · iexact Htm
      iexact Hmr
    · iexact Hma

/-- From the last point: every semaphore at zero, `x` and the landing buffer in pieces. -/
theorem stEnd_elim : stEnd m c ⊢ iprop(semVal (barCell c) 0 ∗ (bigSep Finset.univ fun k : Fin 30 => semVal (ownCell c k) 0)
    ∗ (bigSep Finset.univ fun p : S => xPc m c p.1 p.2) ∗ (bigSep Finset.univ fun p : S => slotAny (F := F) c p.1 p.2)) := by
  unfold stEnd
  rw [univ_own, univ_slots (fun p : S => xPc m c p.1 p.2), univ_slots (fun p : S => slotAny (F := F) c p.1 p.2)]
  rw [← cps_univ]
  rw [show bigSep Finset.univ (left m c) = iprop((bigSep Finset.univ fun p : P => semVal (sendCell c p.1 p.2) 0) ∗ bigSep Finset.univ fun p : P => xPc m c p.1.castSucc p.2)
      from bigSep_sep' _ _ _,
    show bigSep Finset.univ (come m c) = iprop((bigSep Finset.univ fun p : P => slotGot m c p.1.castSucc p.2) ∗ bigSep Finset.univ fun p : P => semVal (recvCell c p.1 p.2) 0)
      from bigSep_sep' _ _ _]
  unfold ownDone
  iintro ⟨Hb, ⟨Hs, Hx⟩, ⟨Hg, Hr⟩, ⟨Hl, Hg0, Hx0⟩, Hm, Hg1, Hx1⟩
  isplitl [Hb]; · iexact Hb
  isplitl [Hs Hr Hl Hm]
  · isplitl [Hs]; · iexact Hs
    isplitl [Hr]; · iexact Hr
    isplitl [Hl] <;> iassumption
  isplitl [Hx Hx0 Hx1]
  · isplitl [Hx]; · iexact Hx
    isplitl [Hx0] <;> iassumption
  isplitl [Hg]
  · iapply (show (bigSep Finset.univ fun p : P => slotGot m c p.1.castSucc p.2) ⊢ bigSep Finset.univ fun p : P => slotAny (F := F) c p.1.castSucc p.2
      from bigSep_mono fun p _ => slotGot_any m c p.1.castSucc p.2)
    iexact Hg
  isplitl [Hg0]
  · iapply (slotGot_any m c 7 0); iexact Hg0
  · iapply (slotGot_any m c 7 1); iexact Hg1

end Ends

end Cert.KernelIdeal.Talk
-- ==== Proof.Grid.lean ====
/-
  The grid: what each point tests and where it reads, the region's proof data, and the body's obligation at every point.
-/
module

public import proofs.«01_k».proof.Proof.Pieces
public import Idealize.ShloMosaic.Lib.Pipeline.ValueKit

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The points -/

/-- The slot that point `t` multiplies. -/
def slotOf (t : ℕ) : Fin 8 := if t < 2 then 7 else ⟨(t / 2 - 1) % 8, Nat.mod_lt _ (by decide)⟩
/-- The half of it. -/
def halfOf (t : ℕ) : Fin 2 := ⟨t % 2, Nat.mod_lt _ (by decide)⟩

theorem coords_val : ∀ t : Fin grid0.N, (grid0.coords t 0).val = t.val := by decide +kernel

theorem cond1_iff : ∀ i : grid0.Coords, k0_cond1 i = 1#1 ↔ (i 0).val = 0 := by decide +kernel
theorem cond2_iff : ∀ i : grid0.Coords, k0_cond2 i = 1#1 ↔ 2 ≤ (i 0).val := by decide +kernel
theorem cond3_iff : ∀ i : grid0.Coords, k0_cond3 i = 1#1 ↔ (i 0).val = 0 := by decide +kernel
theorem cond4_iff : ∀ i : grid0.Coords, k0_cond4 i = 1#1 ↔ 0 < (i 0).val := by decide +kernel
theorem cond5_iff : ∀ i : grid0.Coords, k0_cond5 i = 1#1 ↔ (i 0).val = 15 := by decide +kernel
theorem off8_eq : ∀ i : grid0.Coords, k0_off8 i = slotOff (slotOf (i 0).val) (halfOf (i 0).val) := by decide +kernel
theorem off6_eq : ∀ i : grid0.Coords, 2 ≤ (i 0).val → k0_off6 i = ![(i 0).val / 2 - 1, (i 0).val % 2] := by decide +kernel

/-- A point after the first two, by the piece it waits for. -/
theorem piece_of : ∀ t : Fin 16, 2 ≤ t.val → ∃ p : P, t.val = 2 * (p.1.val + 1) + p.2.val ∧ slotOf t.val = p.1.castSucc ∧ halfOf t.val = p.2
    ∧ t.val / 2 - 1 = p.1.val ∧ t.val % 2 = p.2.val := by decide +kernel

/-! ## The region's proof data -/

/-- The table, admissible. -/
def adm (c : Dev nD) : (pcfg0 (F := F)).Adm := ⟨tbl c, ok_tbl c⟩
abbrev admD : Dev nD → (p : Fin 1) → (pcfgs (F := F) p).Adm := fun c _ => adm c

section Data

variable (c : Dev nD)

/-- The weights' block of point `t`. -/
def wB (t : ℕ) : S512x4096.Idx → Elt F .bf16 :=
  if h : t < grid0.N then (((cfg0 (F := F) (adm c)).win 0).blk ⟨t, h⟩).view.read (Elt F) (V7 m c main_arg1)
  else constant S512x4096 .bf16 0x0000#16

/-- The product of point `t`. -/
def prod (t : ℕ) : FVec F S1024x4096 .f32 := mm (wB m c t) (got m c (slotOf t) (halfOf t))

/-- What has been summed after point `t`. -/
def part : ℕ → FVec F S1024x4096 .f32
  | 0 => prod m c 0
  | t + 1 => addf (part t) (prod m c (t + 1))

/-- What the output's block holds after point `t`. -/
def outv (t : ℕ) : FVec F S1024x4096 .f32 := if t = 15 then k0_pay3 (part m c 15) else part m c t

/-- The exchange before point `t`. -/
def stAt (t : ℕ) : sProp 𝕄 := if t = 0 then st0 m c else if t = 16 then stEnd m c else st m c t

/-- The tables, held. -/
abbrev tabs : sProp 𝕄 := Pipeline.prefHeld (Ix := Unit) (Name := ℕ) (U := UU) (Lvl := ℕ) pre0 c (fun _ => fullShare) (tbl (F := F) c)

/-- The invariant before point `t`. -/
def inv (t : ℕ) : sProp 𝕄 := iprop((∃ K, records m K) ∗ stAt m c t ∗ xRest m c ∗ gRest (F := F) c ∗ tabs (F := F) c)

def dat : Pipeline.Dat τ (Elt F) Unit ℕ UU ℕ (cfg0 (F := F) (adm c)) c where
  A := fun | 0 => V7 m c main_arg1 | 1 => V7 m c main_v14 | ⟨_ + 2, h⟩ => absurd h (Nat.not_lt.2 (Nat.le_add_left _ _))
  after := fun | 0 => fun t => wB m c t.val | 1 => fun t => outv m c t.val | ⟨_ + 2, h⟩ => absurd h (Nat.not_lt.2 (Nat.le_add_left _ _))
  Φ t := inv m c t.val
  q _ := fullShare
  owed t := if t.val = 0 then O₀ c else 0

theorem wB_eq (t : Fin grid0.N) : wB m c t.val = (((cfg0 (F := F) (adm c)).win 0).blk t).view.read (Elt F) (V7 m c main_arg1) :=
  dif_pos t.isLt

theorem before_w (t : Fin grid0.N) (d) : (dat m c).before 0 t d = wB m c t.val :=
  ((dat m c).before_in_eq_fetched 0 rfl (fun _ => rfl) (fun _ _ _ => rfl) (fun t => wB_eq m c t) t d).trans (wB_eq m c t).symm

theorem flush_o : ∀ t : Fin grid0.N, t.val + 1 ≠ 16 → ((cfg0 (F := F) (adm c)).win 1).flush t = false := by
  intro t ht
  unfold Pipeline.Window.flush
  have h1 : ¬ (t.val + 1 = grid0.N) := fun e => ht (e.trans N_0)
  have h2 : ¬ ∃ h : t.val + 1 < grid0.N, ((cfg0 (F := F) (adm c)).win 1).index ⟨t.val + 1, h⟩ ≠ ((cfg0 (F := F) (adm c)).win 1).index t :=
    fun ⟨_, hn⟩ => hn rfl
  show (true && (decide (t.val + 1 = grid0.N) || decide _)) = false
  rw [decide_eq_false h1, decide_eq_false h2]; rfl

theorem idle_o : ∀ i : grid0.Coords, idle0 1 i = false := by decide +kernel

theorem before_o (t : Fin grid0.N) (ht : t.val ≠ 0) (d) : (dat m c).before 1 t d = outv m c (t.val - 1) := by
  have hl : t.val - 1 < grid0.N := Nat.lt_of_le_of_lt (Nat.sub_le _ _) t.isLt
  have hN : t.val < 16 := N_0 ▸ t.isLt
  rw [(dat m c).before_of_pos 1 t ht rfl d, flush_o c ⟨t.val - 1, hl⟩ (by show t.val - 1 + 1 ≠ 16; omega), if_neg Bool.false_ne_true]
  unfold Pipeline.Dat.left
  have hi : (cfg0 (F := F) (adm c)).idle 1 ((cfg0 (F := F) (adm c)).grid.coords ⟨t.val - 1, hl⟩) = false := idle_o _
  rw [hi]
  rfl

theorem owesAt_intro (t : Fin (grid0.N + 1)) (O : CellTallies nD τ sig Unit) (h : (dat m c).owed t = O) : owesE c O ⊢ ((dat m c).owesAt () t : sProp 𝕄) := by
  unfold owesE Pipeline.Dat.owesAt Pipeline.owesWithin Pipeline.Dat.bound
  rw [h]
  iintro ⟨%W, HO⟩; iexists W; isplitr
  · ipureintro; exact fun _ _ => Or.inl trivial
  iexact HO
theorem owesAt_elim (t : Fin (grid0.N + 1)) (O : CellTallies nD τ sig Unit) (h : (dat m c).owed t = O) : ((dat m c).owesAt () t : sProp 𝕄) ⊢ owesE c O := by
  unfold owesE Pipeline.Dat.owesAt Pipeline.owesWithin
  rw [h]
  iintro ⟨%W, -, HO⟩; iexists W; iexact HO

theorem owed_zero (t : Fin (grid0.N + 1)) (h : t.val = 0) : (dat m c).owed t = O₀ c := if_pos h
theorem owed_pos (t : Fin (grid0.N + 1)) (h : t.val ≠ 0) : (dat m c).owed t = 0 := if_neg h

/-! ## The body's obligation -/

theorem out_zero : outv m c 0 = mm (wB m c 0) (got m c 7 0) := rfl
theorem out_mid (t : ℕ) (h : t + 1 ≠ 15) (h' : t ≠ 15) : outv m c (t + 1) = addf (outv m c t) (prod m c (t + 1)) := by
  unfold outv; rw [if_neg h, if_neg h']; rfl
theorem out_last : outv m c 15 = k0_pay3 (addf (outv m c 14) (prod m c 15)) := by
  unfold outv; rw [if_pos rfl, if_neg (by decide)]; rfl

section
variable (K : GSem nD τ sig → ℕ) (i : grid0.Coords) (h1 : tM.IsWhole) (h2 : xM.IsWhole) (arg3 : Memref sig .tc .vmem S512x4096 .bf16) (h3 : arg3.IsWhole)
  (arg4 : Memref sig .tc .vmem S1024x4096 .f32) (h4 : arg4.IsWhole) (h5 : gM.IsWhole)

/-- Any point: the exchange moves on, and the output's block is what it was plus the point's product. -/
theorem point_at (t : ℕ) (ht : t < 16) (hi : (i 0).val = t) (a : FVec F S1024x4096 .f32) (ha : ∀ u, t = u + 1 → a = outv m c u) {Q : PUnit → sProp 𝕄} :
    iprop(records m K ∗ stAt m c t ∗ owesE c (if t = 0 then O₀ c else 0) ∗ owns (c : Thread nD τ) arg3 fullShare (wB m c t) ∗ owns (c : Thread nD τ) arg4 fullShare a)
      ⊢ iprop(((stAt m c (t + 1) ∗ owesE c 0 ∗ owns (c : Thread nD τ) arg3 fullShare (wB m c t)
              ∗ owns (c : Thread nD τ) arg4 fullShare (outv m c t)) -∗ Q ⟨⟩)
        -∗ wp frame (wpE (defs₀ (F := F)) 𝒱₀ (c : Thread nD τ) none) Set.univ (theBody i h1 h2 arg3 h3 arg4 h4 h5) Q) := by
  have c1 := cond1_iff i
  have c2 := cond2_iff i
  have c3 := cond3_iff i
  have c4 := cond4_iff i
  have c5 := cond5_iff i
  have o8 := off8_eq i
  have o6 := off6_eq i
  simp only [hi] at c1 c2 c3 c4 c5 o8 o6
  rcases Nat.eq_zero_or_pos t with h0 | h0
  · subst h0
    exact point0 m K c i h1 h2 arg3 h3 arg4 h4 h5 (c1.2 rfl) (fun e => absurd (c2.1 e) (by decide)) (c3.2 rfl) (fun e => absurd (c4.1 e) (by decide))
      (fun e => absurd (c5.1 e) (by decide)) o8 _ a
  obtain ⟨u, rfl⟩ := Nat.exists_eq_succ_of_ne_zero (Nat.pos_iff_ne_zero.mp h0)
  obtain rfl := ha u rfl
  have n1 : ¬ k0_cond1 i = 1#1 := fun e => absurd (c1.1 e) (by omega)
  have n3 : ¬ k0_cond3 i = 1#1 := fun e => absurd (c3.1 e) (by omega)
  have p4 : k0_cond4 i = 1#1 := c4.2 h0
  rw [if_neg (Nat.succ_ne_zero u)]
  rcases Nat.eq_zero_or_pos u with hu | hu
  · subst hu
    exact point1 m K c i h1 h2 arg3 h3 arg4 h4 h5 n1 n3 p4 (fun e => absurd (c2.1 e) (by decide)) (fun e => absurd (c5.1 e) (by decide)) o8 _ _
  obtain ⟨p, hp, hs, hh, hd, hm⟩ := piece_of ⟨u + 1, ht⟩ (by show 2 ≤ u + 1; omega)
  dsimp only at hp hs hh hd hm
  have p2 : k0_cond2 i = 1#1 := c2.2 (by omega)
  have s8 : k0_off8 i = slotOff p.1.castSucc p.2 := by rw [o8]; show slotOff (slotOf (u + 1)) (halfOf (u + 1)) = _; rw [hs, hh]
  have s6 : k0_off6 i = ![p.1.val, p.2.val] := by rw [o6 (by omega), ← hd, ← hm]
  have hprod : prod m c (u + 1) = mm (wB m c (u + 1)) (got m c p.1.castSucc p.2) := by unfold prod; rw [hs, hh]
  have hst : stAt m c (u + 1) = st m c (u + 1) := by unfold stAt; rw [if_neg (by omega), if_neg (by omega)]
  rw [hst]
  by_cases h15 : u + 1 = 15
  · obtain rfl : u = 14 := by omega
    obtain rfl : p = ((6 : Fin 7), (1 : Fin 2)) := by revert hp; clear hs hh hd hm s8 s6 hprod; revert p; decide
    rw [out_last, hprod]
    exact point3 m K c i h1 h2 arg3 h3 arg4 h4 h5 n1 n3 p4 p2 (c5.2 rfl) s8 s6 _ _
  · rw [out_mid m c u h15 (by omega), hprod,
      show stAt m c (u + 1 + 1) = st m c (u + 1 + 1) from by unfold stAt; rw [if_neg (by omega), if_neg (by omega)]]
    exact point2 m K c i h1 h2 arg3 h3 arg4 h4 h5 n1 n3 p4 (u + 1) p hp p2 (fun e => absurd (c5.1 e) h15) s8 s6 _ _

end

theorem body_ok : Pipeline.BodyObligation (dat m c) defs₀ 𝒱₀ () Set.univ := fun t => by
  have hN : t.val < 16 := lt_of_lt_of_eq t.isLt N_0
  rw [bigSep_W0, bigSep_W0, show (dat m c).Φ t.castSucc = inv m c t.val from rfl, show (dat m c).Φ t.succ = inv m c (t.val + 1) from rfl]
  unfold inv
  iintro ⟨⟨⟨%K, #HR⟩, Hst, Hrest⟩, HO, ⟨%d0, Hw⟩, ⟨%d1, Ho⟩⟩
  ihave HO := (owesAt_elim m c t.castSucc (if t.val = 0 then O₀ c else 0) rfl) $$ HO
  have hw : (dat m c).before 0 t d0 = wB m c t.val := before_w m c t d0
  iapply (point_at m c K (grid0.coords t) (Memref.isWhole_whole _) (Memref.isWhole_whole _) _ (stage_whole0 0 _) _ (stage_whole0 1 _) (Memref.isWhole_whole _)
    t.val hN (coords_val t) ((dat m c).before 1 t d1)
    (fun u hu => (before_o m c t (by omega) d1).trans (congrArg (outv m c) (by omega)))) $$ [Hst HO Hw Ho]
  · isplitr; · iexact HR
    isplitl [Hst]; · iexact Hst
    isplitl [HO]; · iexact HO
    isplitl [Hw]
    · rw [← hw]; iexact Hw
    iexact Ho
  iintro ⟨Hst, HO, Hw, Ho⟩
  isplitl [Hst Hrest]
  · isplitr; · iexists K; iexact HR
    isplitl [Hst]; · iexact Hst
    iexact Hrest
  isplitl [HO]
  · iapply (owesAt_intro m c t.succ 0 (owed_pos m c t.succ (Nat.succ_ne_zero _))); iexact HO
  isplitl [Hw]; · iexact Hw
  have hi : (cfg0 (F := F) (adm c)).idle (1 : Fin 2) ((cfg0 (F := F) (adm c)).grid.coords t) = false := idle_o _
  rw [hi]
  iexact Ho

end Data

end Cert.KernelIdeal.Talk
-- ==== Proof.Region.lean ====
/-
  The kernel's region: what it is entered with, what it gives back, and its record.
-/
module

public import proofs.«01_k».proof.Proof.Grid
public import proofs.«01_k».proof.Proof.Gen.KernelIdeal.Regions
public import Idealize.ShloMosaic.Lib.Pipeline.Regions

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The host's buffers, the four the kernel uses apart -/

section Bufs

variable (c : Dev nD)

/-- What the result's array holds at the end. -/
def fin : Buf (Elt F) ((c : Thread nD τ).loc main_v14) := (dat m c).arrAt 1 grid0.N
/-- The host's buffers after the kernel. -/
def VF : Valuation τ sig (Elt F) := Function.update (V7 m c) (Proc.devRef .tc main_v14) (fin m c)

theorem VF_v14 : VF m c main_v14 = fin m c := Function.update_self _ _ _
theorem VF_ne (b : DevRef τ sig) (h : b ≠ Proc.devRef .tc main_v14) : VF m c b = V7 m c b := Function.update_of_ne h _ _

theorem V7_arg0 : V7 m c main_arg0 = xIn m c :=
  (V8_of m (fun _ r c => m ((c : Thread nD τ).loc r)) c main_arg0 (by decide)).symm.trans (V8_main_arg0 m _ c)
theorem V7_arg1 : V7 m c main_arg1 = m ((c : Thread nD τ).loc main_arg1) :=
  (V8_of m (fun _ r c => m ((c : Thread nD τ).loc r)) c main_arg1 (by decide)).symm.trans (V8_main_arg1 m _ c)

/-- The buffers the kernel uses. -/
abbrev four : Finset (DevRef τ sig) :=
  {Proc.devRef .tc main_arg1, Proc.devRef .tc main_v14, Proc.devRef .tc main_v13, Proc.devRef .tc main_arg0}
theorem four_sub : four ⊆ Pipeline.ucRefs τ sig := by decide +kernel

/-- The host's other buffers. -/
def others : sProp 𝕄 := StableHlo.held (c : Thread nD τ) (Pipeline.ucRefs τ sig \ four) (V7 m c)

omit [FloatOps F] in
theorem held_four (V : Valuation τ sig (Elt F)) : (StableHlo.held (c : Thread nD τ) (Pipeline.ucRefs τ sig) V : sProp 𝕄)
    = iprop((((c : Thread nD τ).loc main_arg1 ↦{fullShare} V main_arg1) ∗ ((c : Thread nD τ).loc main_v14 ↦{fullShare} V main_v14)
        ∗ ((c : Thread nD τ).loc main_v13 ↦{fullShare} V main_v13) ∗ ((c : Thread nD τ).loc main_arg0 ↦{fullShare} V main_arg0))
      ∗ StableHlo.held (c : Thread nD τ) (Pipeline.ucRefs τ sig \ four) V) := by
  rw [StableHlo.held_sub_split (c : Thread nD τ) four_sub V]
  congr 1
  unfold StableHlo.held
  rw [bigSep_insert (by decide), bigSep_insert (by decide), bigSep_insert (by decide), bigSep_singleton]
  rfl

theorem held_V7 : (StableHlo.held (c : Thread nD τ) (Pipeline.ucRefs τ sig) (V7 m c) : sProp 𝕄)
    = iprop((((c : Thread nD τ).loc main_arg1 ↦{fullShare} V7 m c main_arg1) ∗ ((c : Thread nD τ).loc main_v14 ↦{fullShare} V7 m c main_v14)
        ∗ ((c : Thread nD τ).loc main_v13 ↦{fullShare} V7 m c main_v13) ∗ (xLoc c ↦{fullShare} xIn m c)) ∗ others m c) := by
  rw [held_four c (V7 m c), V7_arg0]; rfl
theorem held_VF : (StableHlo.held (c : Thread nD τ) (Pipeline.ucRefs τ sig) (VF m c) : sProp 𝕄)
    = iprop((((c : Thread nD τ).loc main_arg1 ↦{fullShare} V7 m c main_arg1) ∗ ((c : Thread nD τ).loc main_v14 ↦{fullShare} fin m c)
        ∗ ((c : Thread nD τ).loc main_v13 ↦{fullShare} V7 m c main_v13) ∗ (xLoc c ↦{fullShare} xIn m c)) ∗ others m c) := by
  rw [held_four c (VF m c), VF_v14, VF_ne m c (Proc.devRef .tc main_arg1) (by decide), VF_ne m c (Proc.devRef .tc main_v13) (by decide),
    VF_ne m c (Proc.devRef .tc main_arg0) (by decide), V7_arg0]
  rw [StableHlo.held_congr (c : Thread nD τ) (V := VF m c) (V' := V7 m c) (S := Pipeline.ucRefs τ sig \ four)
    (fun b hb => VF_ne m c b (fun e => (Finset.mem_sdiff.mp hb).2 (by rw [e]; decide)))]
  rfl

theorem tabs_eq : tabs c = ((c : Thread nD τ).loc main_v13 ↦{fullShare} V7 m c main_v13 : sProp 𝕄) := by
  rw [← tbl_eq m c]
  unfold tabs Pipeline.prefHeld
  rw [show (Finset.univ : Finset (Fin pre0.K)) = {0} from by decide, bigSep_singleton]
  rfl

end Bufs

/-! ## The record -/

abbrev pdats : (p : Fin 1) → (c : Dev nD) → Pipeline.Dat τ (Elt F) Unit ℕ UU ℕ (Pipeline.pinD (pcfgs (F := F)) admD c p) c :=
  fun | 0, c => dat m c

section Rec

variable (c : Dev nD)

/-- What the device comes to the kernel with, beside its buffers. -/
def start : sProp 𝕄 :=
  iprop((∃ K, records m K) ∗ (bigSep Finset.univ fun k : Fin 30 => openTok ER (ownCell c k)) ∗ atPos ER (barCell c) 0 ∅ 0 ∗ toks c ∗ creds c ∗ owesE c (O₀ c))

theorem open_own (K : GSem nD τ sig → ℕ) :
    iprop(records m K ∗ (bigSep Finset.univ fun k : Fin 30 => openTok ER (ownCell c k)) ∗ Pipeline.ownSems0 osem c)
      ⊢ (|={Set.univ}=> opened c : sProp 𝕄) := by
  unfold Pipeline.ownSems0 opened
  iintro ⟨#HR, Ho, Hs⟩
  ihave H := (Entails.of_eq (bigSep_sep' _ _ _).symm) $$ [Ho Hs]
  · isplitl [Ho] <;> iassumption
  iapply (show _ ⊢ _ from bigSep_fupd (Finset.univ : Finset (Fin 30)) (fun k => iprop(atPos ER (ownCell c k) 0 ∅ 0 ∗ reached ER (ownCell c k) 0)))
  iapply (bigSep_with_persistent (R := records m K) (Φ := fun k : Fin 30 => iprop(openTok ER (ownCell c k) ∗ semVal ((c : Thread nD τ), osem k) 0))
    (Ψ := fun k : Fin 30 => iprop(|={Set.univ}=> (atPos ER (ownCell c k) 0 ∅ 0 ∗ reached ER (ownCell c k) 0))) fun k _ => ?_)
  · iintro ⟨#HR, Ho, Hs⟩
    iapply (Rounds.cell_open ER (rd m) (g := ownCell c k) (κ := K (ownCell c k)) (Set.mem_univ _))
    isplitr; · iapply (inv_own m K c k); iexact HR
    isplitl [Ho] <;> iassumption
  · isplitr; · iexact HR
    iexact H

/-- What enters the pipeline's invariant, and what it gives back. -/
def X : sProp 𝕄 := iprop((∃ K, records m K) ∗ opened c ∗ atPos ER (barCell c) 0 ∅ 0 ∗ toks c ∗ creds c ∗ (xLoc c ↦{fullShare} xIn m c))
def Y : sProp 𝕄 := iprop(semVal (barCell c) 0 ∗ (xLoc c ↦{fullShare} xIn m c) ∗ tabs (F := F) c)

theorem arrays_at (n : ℕ) : (dat m c).arrays ((dat m c).arrAt · n)
    = iprop(((c : Thread nD τ).loc main_arg1 ↦{fullShare} V7 m c main_arg1) ∗ ((c : Thread nD τ).loc main_v14 ↦{fullShare} (dat m c).arrAt 1 n)) := by
  rw [Pipeline.PerCore.arrays_eq (Pipeline.pinD (pcfgs (F := F)) admD) (pdats m) 0 c arr_whole0
    (fun w => by match w with | 0 => rfl | 1 => rfl), bigSep_W0, (dat m c).arrAt_in 0 rfl n]
  rfl

theorem start_state : iprop((StableHlo.held (c : Thread nD τ) (Pipeline.ucRefs τ sig) (V7 m c) ∗ start m c) ∗ Pipeline.ownSems0 osem c ∗ levAts L lv)
    ⊢ (|={Set.univ}=> iprop((dat m c).arrays ((dat m c).arrAt · 0) ∗ tabs (F := F) c ∗ (dat m c).owesAt () 0 ∗ X m c ∗ others m c) : sProp 𝕄) := by
  rw [held_V7, arrays_at, tabs_eq m c]
  unfold start X
  iintro ⟨⟨⟨⟨Hw, Ho, Ht, Hx⟩, Hrest⟩, ⟨%K, #HR⟩, Hopen, Hat, Htok, Hcr, HO⟩, Hs, -⟩
  imod (open_own m c K) $$ [Hopen Hs] with Hop
  · isplitr; · iexact HR
    isplitl [Hopen] <;> iassumption
  imodintro
  isplitl [Hw Ho]
  · isplitl [Hw]; · iexact Hw
    iexact Ho
  isplitl [Ht]; · iexact Ht
  isplitl [HO]
  · iapply (owesAt_intro m c 0 (O₀ c) (owed_zero m c 0 rfl)); iexact HO
  isplitr [Hrest]
  · isplitr; · iexists K; iexact HR
    isplitl [Hop]; · iexact Hop
    isplitl [Hat]; · iexact Hat
    isplitl [Htok]; · iexact Htok
    isplitl [Hcr] <;> iassumption
  iexact Hrest

theorem enter : iprop(X m c ∗ tabs (F := F) c ∗ Pipeline.scopedRest (Ix := Unit) (Name := ℕ) (U := UU) (Lvl := ℕ) spec0 c) ⊢ (inv m c 0 : sProp 𝕄) := by
  rw [scopedRest0_eq]
  unfold X inv
  iintro ⟨⟨HR, Hop, Hat, Htok, Hcr, Hx⟩, Ht, Hg⟩
  ihave Hx := (x_split m c) $$ Hx
  icases Hx with ⟨Hx, Hxr⟩
  ihave Hg := (g_split (F := F) c) $$ Hg
  icases Hg with ⟨Hg, Hgr⟩
  isplitl [HR]; · iexact HR
  isplitl [Hop Hat Htok Hcr Hx Hg]
  · rw [show stAt m c 0 = st0 m c from rfl]
    iapply (st0_intro m c)
    isplitl [Hat]; · iexact Hat
    isplitl [Hop]; · iexact Hop
    isplitl [Htok]; · iexact Htok
    isplitl [Hcr]; · iexact Hcr
    isplitl [Hx] <;> iassumption
  isplitl [Hxr]; · iexact Hxr
  isplitl [Hgr] <;> iassumption

theorem leave : (inv m c 16 : sProp 𝕄) ⊢ iprop(Y m c ∗ Pipeline.ownSems0 osem c ∗ Pipeline.scopedRest (Ix := Unit) (Name := ℕ) (U := UU) (Lvl := ℕ) spec0 c) := by
  rw [scopedRest0_eq]
  unfold Y inv Pipeline.ownSems0
  rw [show stAt m c 16 = stEnd m c from rfl]
  iintro ⟨-, Hst, Hxr, Hgr, Ht⟩
  ihave H := (stEnd_elim m c) $$ Hst
  icases H with ⟨Hb, Hs, Hx, Hg⟩
  isplitl [Hb Hx Hxr Ht]
  · isplitl [Hb]; · iexact Hb
    isplitl [Hx Hxr]
    · iapply (x_join m c); isplitl [Hx] <;> iassumption
    iexact Ht
  isplitl [Hs]; · iexact Hs
  iapply (g_join (F := F) c); isplitl [Hg] <;> iassumption

/-- What the device leaves the kernel with. -/
def done : sProp 𝕄 := iprop(semVal (barCell c) 0 ∗ owesE c 0)

theorem end_state : iprop((dat m c).arrays ((dat m c).arrAt · grid0.N) ∗ (dat m c).owesAt () (Fin.last grid0.N) ∗ Y m c ∗ others m c)
    ⊢ (|={Set.univ}=> iprop(StableHlo.held (c : Thread nD τ) (Pipeline.ucRefs τ sig) (VF m c) ∗ done c) : sProp 𝕄) := by
  rw [held_VF, arrays_at]
  unfold Y done
  rw [tabs_eq m c]
  iintro ⟨⟨Hw, Ho⟩, HO, ⟨Hb, Hx, Ht⟩, Hrest⟩
  ihave HO := (owesAt_elim m c (Fin.last grid0.N) 0 (owed_pos m c _ (by rw [Fin.val_last, N_0]; decide))) $$ HO
  imodintro
  isplitr [Hb HO]
  · isplitr [Hrest]
    · isplitl [Hw]; · iexact Hw
      isplitl [Ho]; · iexact Ho
      isplitl [Ht] <;> iassumption
    iexact Hrest
  isplitl [Hb] <;> iassumption

/-- Waiting for a block, in or out, is always allowed. -/
theorem waits : (levAts L lv : sProp 𝕄) ⊢ Pipeline.PerCore.cellsWaits (Pipeline.pinD (pcfgs (F := F)) admD) (pdats m) () 0 c :=
  Pipeline.PerCore.cellsWaits_intro _ _ _ _ _ fun w s t => by
    by_cases h : t.val = 0
    · rw [show (pdats m 0 c).owed t = O₀ c from owed_zero m c t h]
      exact mayWait c _ dues 0 (le_of_eq (lv_stage w s)) (by decide)
    · rw [show (pdats m 0 c).owed t = 0 from owed_pos m c t h, MayWait_zero]
      iintro -; iempintro
where
  lv_stage : ∀ (w : Fin 2) (s : Fin (spec0 w).nbuf), lv (((c : Dev nD) : Thread nD τ), .dma ((spec0 w).sem s)) () = 0 := fun w s => by
    revert s; revert w; show ∀ (w : Fin 2) (s : Fin (spec0 w).nbuf), lv (((0 : Dev nD) : Thread nD τ), .dma ((spec0 w).sem s)) () = 0; decide

end Rec

theorem own_facts : Pipeline.OwnSemFacts spec0 osem := by decide

/-- The kernel's region. -/
def reg : Pipeline.PerCore.RegionSeg (pcfgs (F := F)) admD (pdats m) () defs₀ 𝒱₀ L lv (0 : Fin 1) where
  win := winFacts0.to₀
  block_pos := block_pos0
  stage_whole := stage_whole0
  K := Fin 30
  osem := osem
  ho := own_facts
  hbody c := (body_ok m c).loose
  hwaits := waits m
  pre c := iprop(StableHlo.held (c : Thread nD τ) (Pipeline.ucRefs τ sig) (V7 m c) ∗ start m c)
  post c := iprop(StableHlo.held (c : Thread nD τ) (Pipeline.ucRefs τ sig) (VF m c) ∗ done c)
  X := X m
  Y := Y m
  Z := others m
  hentry := start_state m
  hin := enter m
  hout c := (Entails.of_eq (congrArg (inv m c) (by rw [Fin.val_last]; exact N_0))).trans (leave m c)
  hexit := end_state m

end Cert.KernelIdeal.Talk
-- ==== Proof.Deal.lean ====
/-
  The launch: every cell's invariant set up at once, and the positions, the payments to make and the payments to come dealt to the devices.
-/
module

public import proofs.«01_k».proof.Proof.Region
public import Idealize.ShloMosaic.Lib.Pipeline.Kit
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells and the payments -/

def barEmb : Dev nD ↪ GSem nD τ sig := ⟨fun c => barCell c, fun _ _ h => congrArg (fun g : GSem nD τ sig => g.1.1) h⟩
theorem osem_inj : Function.Injective osem := own_facts.inj
def ownEmb : Dev nD × Fin 30 ↪ GSem nD τ sig :=
  ⟨fun ck => ownCell ck.1 ck.2, fun _ _ h => Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  have e : (SemLoc.dma (ownS ck.2) : SemLoc sig) = .reg barS := congrArg Prod.snd h
  cases e

/-- A payment of a device's cells: which cell, which of its payments. -/
def payAt : Fin 7 ⊕ Fin 30 → SemLoc sig × Fin 7 := Sum.elim (fun d => (.reg barS, d)) (fun k => (osem k, 0))
theorem payAt_inj : Function.Injective payAt := by decide +kernel

def payToks : Finset (GSem nD τ sig × ℕ × Fin 7) :=
  Finset.univ.map ⟨fun ck : Dev nD × (Fin 7 ⊕ Fin 30) => (((ck.1 : Thread nD τ), (payAt ck.2).1), 0, (payAt ck.2).2), fun _ _ h =>
    Prod.ext (congrArg (fun t : GSem nD τ sig × ℕ × Fin 7 => t.1.1.1) h)
      (payAt_inj (Prod.ext (congrArg (fun t : GSem nD τ sig × ℕ × Fin 7 => t.1.2) h) (congrArg (fun t : GSem nD τ sig × ℕ × Fin 7 => t.2.2) h)))⟩

omit [FloatOps F] in
theorem toks_all : bigSep payToks (fun x => (dutyTok ER x.1 x.2.1 x.2.2 : sProp 𝕄))
    = iprop((bigSep Finset.univ fun c : Dev nD => bigSep Finset.univ fun d : Fin 7 => dutyTok ER (barCell c) 0 d)
      ∗ bigSep Finset.univ fun c : Dev nD => bigSep Finset.univ fun k : Fin 30 => dutyTok ER (ownCell c k) 0 0) := by
  unfold payToks
  rw [bigSep_map, bigSep_univ_prod, ← bigSep_sep']
  exact bigSep_congr fun c _ => by rw [bigSep_univ_sum]; rfl

omit [FloatOps F] in
/-- The payments, each to the device that makes it. -/
theorem toks_dealt : bigSep payToks (fun x => (dutyTok ER x.1 x.2.1 x.2.2 : sProp 𝕄)) ⊢ bigSep Finset.univ fun c : Dev nD => (toks c : sProp 𝕄) := by
  rw [toks_all]
  have hb : (bigSep Finset.univ fun c : Dev nD => bigSep Finset.univ fun d : Fin 7 => (dutyTok ER (barCell c) 0 d : sProp 𝕄))
      = bigSep Finset.univ fun c : Dev nD => bigSep Finset.univ fun i : Fin 7 => (dutyTok ER (barCell (tgt c i.castSucc)) 0 i.rev : sProp 𝕄) := by
    rw [bigSep_univ_comm, bigSep_univ_equiv Fin.revPerm, bigSep_univ_comm (fun (c : Dev nD) (i : Fin 7) => (dutyTok ER (barCell (tgt c i.castSucc)) 0 i.rev : sProp 𝕄))]
    exact bigSep_congr fun i _ => bigSep_univ_equiv (shift i.castSucc) (fun c : Dev nD => (dutyTok ER (barCell c) 0 i.rev : sProp 𝕄))
  have hr : (bigSep Finset.univ fun c : Dev nD => bigSep Finset.univ fun p : P => (dutyTok ER (recvCell c p.1 p.2) 0 0 : sProp 𝕄))
      = bigSep Finset.univ fun c : Dev nD => bigSep Finset.univ fun p : P => (dutyTok ER (recvCell (tgt c p.1.castSucc) p.1 p.2) 0 0 : sProp 𝕄) := by
    rw [bigSep_univ_comm, bigSep_univ_comm (fun (c : Dev nD) (p : P) => (dutyTok ER (recvCell (tgt c p.1.castSucc) p.1 p.2) 0 0 : sProp 𝕄))]
    exact bigSep_congr fun p _ => bigSep_univ_equiv (shift p.1.castSucc) (fun c : Dev nD => (dutyTok ER (recvCell c p.1 p.2) 0 0 : sProp 𝕄))
  rw [hb, bigSep_congr (s := Finset.univ) (Φ := fun c : Dev nD => bigSep Finset.univ fun k : Fin 30 => (dutyTok ER (ownCell c k) 0 0 : sProp 𝕄))
    (fun c _ => univ_own (fun k : Fin 30 => (dutyTok ER (ownCell c k) 0 0 : sProp 𝕄)))]
  unfold toks
  rw [bigSep_sep', bigSep_sep', bigSep_sep', bigSep_sep', bigSep_sep', bigSep_sep', bigSep_sep', hr]

/-! ## The payments to come -/

omit [FloatOps F] in
theorem cred_each (c : Dev nD) (l : List Due) :
    (Pipeline.launchCred (fun d => owing d l) c : sProp 𝕄) ⊢ each l fun x => cred (tallyAt ((c : Thread nD τ), x.2.1) () x.2.2) := by
  induction l with
  | nil => show _ ⊢ iprop(emp); iintro -; iempintro
  | cons x l ih =>
    show (Pipeline.launchCred (fun d => owing d l + tallyAt ((tgt d x.1 : Thread nD τ), x.2.1) () x.2.2) c : sProp 𝕄) ⊢ iprop(cred _ ∗ each l _)
    rw [Pipeline.launchCred_add]
    iintro ⟨Hl, Hx⟩
    isplitl [Hx]
    · iapply (Pipeline.launchCred_tallyAt x.2.1 (fun d => tgt d x.1) (fun d => frm d x.1) (fun d => tgt_frm d x.1) (fun d => frm_tgt d x.1) () x.2.2 c)
      iexact Hx
    · iapply ih; iexact Hl

omit [FloatOps F] in
theorem cred_bar (c : Dev nD) (n : ℕ) :
    iprop(cred (tallyAt (barCell c) () 1) ∗ cred (tallyAt (barCell c) () n)) ⊢ (cred (tallyAt (barCell c) () (1 + n)) : sProp 𝕄) := by
  rw [← tallyAt_add]; exact (cred_add _ _).2

theorem creds_dealt (c : Dev nD) : (Pipeline.launchCred O₀ c : sProp 𝕄) ⊢ creds c := by
  refine (cred_each c dues).trans ?_
  unfold creds
  rw [cps_univ (fun p : P => (cred (tallyAt (recvCell c p.1 p.2) () N) : sProp 𝕄))]
  show iprop(cred (tallyAt (barCell c) () 1) ∗ cred (tallyAt (barCell c) () 1) ∗ cred (tallyAt (barCell c) () 1) ∗ cred (tallyAt (barCell c) () 1)
    ∗ cred (tallyAt (barCell c) () 1) ∗ cred (tallyAt (barCell c) () 1) ∗ cred (tallyAt (barCell c) () 1)
    ∗ each cps fun p : P => cred (tallyAt (recvCell c p.1 p.2) () N)) ⊢ _
  iintro ⟨H1, H2, H3, H4, H5, H6, H7, Hr⟩
  isplitr [Hr]
  · iapply (cred_bar (F := F) c 6); isplitl [H1]; · iexact H1
    iapply (cred_bar (F := F) c 5); isplitl [H2]; · iexact H2
    iapply (cred_bar (F := F) c 4); isplitl [H3]; · iexact H3
    iapply (cred_bar (F := F) c 3); isplitl [H4]; · iexact H4
    iapply (cred_bar (F := F) c 2); isplitl [H5]; · iexact H5
    iapply (cred_bar (F := F) c 1); isplitl [H6] <;> iassumption
  · iexact Hr

/-! ## The launch -/

/-- All of `X` with one device. -/
def atDev (c₀ : Dev nD) (X : sProp 𝕄) (c : Dev nD) : sProp 𝕄 := if c = c₀ then X else iprop(emp)
omit [FloatOps F] in
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

/-- The protocol's launch element, kept with device 0 until it is dealt. -/
def G : Dev nD → sProp 𝕄 := atDev 0 (BI.own (ER (launchOf barCells ownCells payToks)))

omit [FloatOps F] in
theorem unscoped_bar : ∀ sm : SemLoc sig, sm.isScoped .tc = false → sm = .reg barS := by decide +kernel
omit [FloatOps F] in
theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- A device's first state: the host's buffers as launched, and what it comes to the kernel with. -/
abbrev T₀ (c : Dev nD) : sProp 𝕄 := iprop(StableHlo.held (c : Thread nD τ) (Pipeline.ucRefs τ sig) (V0 m c) ∗ start m c)

/-- What a device has at launch that the dealing does not touch. -/
def have0 (c : Dev nD) : sProp 𝕄 :=
  iprop(StableHlo.held (c : Thread nD τ) (Pipeline.ucRefs τ sig) (V0 m c) ∗ creds c ∗ owesE c (O₀ c))
/-- What is dealt to it. -/
def dealt (c : Dev nD) : sProp 𝕄 :=
  iprop((bigSep Finset.univ fun k : Fin 30 => openTok ER (ownCell c k)) ∗ atPos ER (barCell c) 0 ∅ 0 ∗ toks c)

theorem first (K : GSem nD τ sig → ℕ) (c : Dev nD) : iprop(records m K ∗ (dealt (F := F) c ∗ have0 m c)) ⊢ T₀ m c := by
  unfold dealt have0 T₀ start
  iintro ⟨#HR, ⟨Ho, Ha, Ht⟩, Hh, Hc, HO⟩
  isplitl [Hh]; · iexact Hh
  isplitr; · iexists K; iexact HR
  isplitl [Ho]; · iexact Ho
  isplitl [Ha]; · iexact Ha
  isplitl [Ht]; · iexact Ht
  isplitl [Hc] <;> iassumption

variable (ρ : Dev nD → PrngReg)

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(have0 m c ∗ (semVal (barCell c) 0 ∗ G (F := F) c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), sems_eq]
    unfold have0 owesE
    iintro ⟨Hh, Hs, HO, Hc, -, HG⟩
    isplitl [Hh HO Hc]
    · isplitl [Hh]; · iexact Hh
      isplitl [Hc]; · iapply (creds_dealt (F := F) c); iexact Hc
      iexists ∅; iexact HO
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun k : Fin 30 => (openTok ER (ownCell c k) : sProp 𝕄)) :=
    Entails.of_eq (by rw [bigSep_map, bigSep_univ_prod]; rfl)
  have hinv (κ : GSem nD τ sig → ℕ) : bigSep (barCells ∪ ownCells) (fun g => (cellInv ER (rd m) (κ g) g : sProp 𝕄))
      ⊢ iprop((bigSep Finset.univ fun c : Dev nD => cellInv ER (rd m) (κ (barCell c)) (barCell c))
        ∗ bigSep Finset.univ fun ck : Dev nD × Fin 30 => cellInv ER (rd m) (κ (ownCell ck.1 ck.2)) (ownCell ck.1 ck.2)) :=
    Entails.of_eq (by rw [bigSep_union cells_disjoint, bigSep_map, bigSep_map]; rfl)
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(have0 m c ∗ (semVal (barCell c) 0 ∗ G (F := F) c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells ownCells payToks)) from
    Entails.of_eq (bigSep_atDev (F := F) 0 (BI.own (ER (launchOf barCells ownCells payToks))))) $$ HG
  imod (Rounds.fund_launch ER (rd m) cells_disjoint (fun g _ h => h) payToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt (F := F) c ∗ have0 m c)) fun c _ => first m κ c)
  isplitr
  · unfold records
    ihave Hi := (hinv κ) $$ Hinv
    icases Hi with ⟨Hi, Hi'⟩
    isplitl [Hi]; · iexact Hi
    isplitl [Hi']; · iexact Hi'
    isplitr; · iapply hre; iexact Hr
    iexact Hlev
  iapply Smoke.bigSep_pair
  isplitr [HB]
  · unfold dealt
    iapply Smoke.bigSep_pair; isplitl [Hopen]; · iapply hopen $$ Hopen
    iapply Smoke.bigSep_pair; isplitl [Hat]; · iapply hat $$ Hat
    iapply (toks_dealt (F := F)); iexact Htok
  · iexact HB

end Cert.KernelIdeal.Talk
-- ==== Proof.Run.lean ====
/-
  The run: from any memory with every counter at zero, the program ends, its arguments as launched, its result what the kernel's output
  window wrote back, every counter at zero again.
-/
module

public import proofs.«01_k».proof.Proof.Deal
public import Idealize.ShloMosaic.Lib.Quiescent

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem stage_inj : Function.Injective (Pipeline.PerCore.cellOf (nD := nD) (τ := τ) (Pipeline.pinD (pcfgs (F := F)) admD)) :=
  Pipeline.PerCore.cellOf_injective _ (fun _ p => by fin_cases p; exact (by decide : Pipeline.SpecSemsDistinct spec0))
    (fun _ p p' h => absurd (Subsingleton.elim p p') h)

/-- The launch element: the pipeline's at its staging cells, the protocol's at its own. -/
def u₀ : UU :=
  (initOf (Pipeline.PerCore.cells (Pipeline.pinD (pcfgs (F := F)) admD) stage_inj) (Pipeline.PerCore.launchToks (Pipeline.pinD (pcfgs (F := F)) admD) stage_inj),
    launchOf barCells ownCells payToks)

/-- The rest a device carries beside the host's buffers. -/
abbrev E : Fin 2 → Dev nD → sProp 𝕄 := fun _ => start m

/-- The program, piece by piece, as device `c` runs it. -/
abbrev segs (c : Dev nD) : List (Pipeline.PerCore.Seg (pcfgs (F := F)) admD (pdats m) () defs₀ 𝒱₀ L lv) :=
  [.host (seg0 m 𝒱₀ L lv (E m) c), .host (seg1 m 𝒱₀ L lv (E m)), .host (seg2 m 𝒱₀ L lv (E m)), .host (seg3 m 𝒱₀ L lv (E m)),
    .host (seg4 m 𝒱₀ L lv (E m)), .host (seg5 m 𝒱₀ L lv (E m)), .host (seg6 m 𝒱₀ L lv (E m)), .region (reg m)]

/-- A device's last state, less what it owes. -/
abbrev Tₙ (c : Dev nD) : sProp 𝕄 := iprop(StableHlo.held (c : Thread nD τ) (Pipeline.ucRefs τ sig) (VF m c) ∗ semVal (barCell c) 0)

/-- What a device's part of the final state says. -/
def Says (c : Dev nD) (s : MemSt nD τ sig (Elt F)) : Prop :=
  (s.mem ((c : Thread nD τ).loc main_v14) = fin m c ∧ s.mem ((c : Thread nD τ).loc main_arg0) = m ((c : Thread nD τ).loc main_arg0)
    ∧ s.mem ((c : Thread nD τ).loc main_arg1) = m ((c : Thread nD τ).loc main_arg1)) ∧ s.sem (barCell c) = 0

theorem read_end (c : Dev nD) (s' : Phys nD τ sig (Elt F)) : iprop(Tₙ m c ∗ SI s') ⊢ (|={Set.univ}=> iprop(⌜Says m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (VF m c) s') $$ [Hh HSI]
  · isplitl [Hh] <;> iassumption
  icases Hr with ⟨%h, HSI⟩
  imodintro
  isplitr
  · ipureintro
    exact ⟨⟨(h (Proc.devRef .tc main_v14) (Finset.mem_filter.mpr ⟨StableHlo.devRef_mem_tcRefs main_v14, by decide⟩)).trans (VF_v14 m c),
      (h (Proc.devRef .tc main_arg0) (Finset.mem_filter.mpr ⟨StableHlo.devRef_mem_tcRefs main_arg0, by decide⟩)).trans
        ((VF_ne m c (Proc.devRef .tc main_arg0) (by decide)).trans (V7_arg0 m c)),
      (h (Proc.devRef .tc main_arg1) (Finset.mem_filter.mpr ⟨StableHlo.devRef_mem_tcRefs main_arg1, by decide⟩)).trans
        ((VF_ne m c (Proc.devRef .tc main_arg1) (by decide)).trans (V7_arg1 m c))⟩, by simpa using hb⟩
  · iexact HSI

set_option backward.isDefEq.respectTransparency.types false in
theorem run_main : θ_run defs (onTc (τ := τ) (main (F := F))) ⟨m, fun _ => 0, ρ⟩ (fun r =>
    (∀ c : Dev nD, r.2.mem ((c : Thread nD τ).loc main_v14) = fin m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine Pipeline.PerCore.θ_run_regions_kit_sems (pcfgs (F := F)) admD (pdats m) () stage_inj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    O₀ L_of_ne (G (F := F)) (u₀ (F := F)) ?_ (T₀ m) (Tₙ m)
    (fun c => ⟨.rfl, .rfl, .rfl, .rfl, .rfl, .rfl, .rfl, .rfl, ?_⟩) (launch m ρ) (Says m) (read_end m) (fun s h hs => ⟨fun c => (h c).1, ?_⟩)
  · unfold u₀ G
    iintro Hu
    ihave H := (ownU_pair _ _) $$ Hu
    icases H with ⟨HP, HX⟩
    imodintro
    isplitl [HP]; · iexact HP
    rw [bigSep_atDev]; iexact HX
  · show iprop(StableHlo.held (c : Thread nD τ) (Pipeline.ucRefs τ sig) (VF m c) ∗ done c) ⊢ iprop(Tₙ m c ∗ ∃ W, owes (c : Thread nD τ) (0 : CellTallies nD τ sig Unit) W)
    unfold done owesE
    iintro ⟨Hh, Hb, HO⟩
    isplitr [HO]
    · isplitl [Hh] <;> iassumption
    · iexact HO
  · exact sem_eq_zero hs fun c sm hsm => by
      obtain rfl := unscoped_bar sm hsm
      exact (h c).2

end Cert.KernelIdeal.Talk
-- ==== Proof.Value.lean ====
/-
  The kernel's result at exact arithmetic: device `c`'s rows of the product of the whole arrays, clipped at zero.

  The sixteen points of a device take the weights' sixteen row blocks in an order of its own (`wrow`), each against the half of the
  piece of `x` that has those columns, so the sum of their products is the sum over all the contracted positions.
-/
module

public import proofs.«01_k».proof.Proof.Run
public import Idealize.ShloMosaic.Lib.MatmulPlain
public import Idealize.ShloMosaic.Lib.StackMember

@[expose] public section

noncomputable section

namespace Cert.KernelIdeal.Talk

open Idealize.ShloMosaic
open Idealize.ShloMosaic.TcCoe
open Cert.KernelIdeal Cert.KernelIdeal.Gen
open scoped BigOperators

/-! ## Which positions a point sums -/

/-- The piece a point multiplies is that of the device whose weights' rows it takes. -/
theorem frm_slot : ∀ (c : Dev nD) (t : Fin 16), frm c (slotOf t.val) = src c t.val := by decide +kernel

/-- No two points of a device take the same row block. -/
theorem wrow_inj (c : Dev nD) : Function.Injective (fun t : Fin 16 => (⟨wrow c t.val, wrow_lt c t⟩ : Fin 16)) := by revert c; decide +kernel

/-- The contracted position of element `q` of point `t`. -/
def pos (c : Dev nD) (t : Fin 16) (q : Fin 512) : Fin 8192 := ⟨wrow c t.val * 512 + q.val, by have := wrow_lt c t; have := q.isLt; omega⟩

/-- The points' positions are all the positions, each once. -/
theorem sum_pos {M : Type} [AddCommMonoid M] (c : Dev nD) (f : Fin 8192 → M) : ∑ t : Fin 16, ∑ q : Fin 512, f (pos c t q) = ∑ k : Fin 8192, f k := by
  have e : ∑ t : Fin 16, ∑ q : Fin 512, f (pos c t q) = ∑ b : Fin 16, ∑ q : Fin 512, f ⟨b.val * 512 + q.val, by have := b.isLt; have := q.isLt; omega⟩ :=
    (Finite.injective_iff_bijective.1 (wrow_inj c)).sum_comp
      (fun b : Fin 16 => ∑ q : Fin 512, f ⟨b.val * 512 + q.val, by have := b.isLt; have := q.isLt; omega⟩)
  rw [e, ← Fintype.sum_prod_type' (f := fun (b : Fin 16) (q : Fin 512) => f ⟨b.val * 512 + q.val, by have := b.isLt; have := q.isLt; omega⟩)]
  refine Fintype.sum_equiv (finProdFinEquiv (m := 16) (n := 512)) _ _ fun p => congrArg f (Fin.ext ?_)
  show p.1.val * 512 + p.2.val = p.2.val + 512 * p.1.val
  omega

/-! ## The result's array -/

section Array
variable {F : FTy → Type} [FloatOps F] (m : (ℓ : Loc nD τ sig) → Buf (Elt F) ℓ)

/-- The last point. -/
abbrev t15 : Fin grid0.N := ⟨15, by rw [N_0]; decide⟩

/-- The result's one block is its array, written at the last point. -/
theorem whole_o (c : Dev nD) : ((cfg0 (F := F) (adm c)).win 1).WholeAt t15 := by
  refine ⟨?_, fun t ht => ?_, fun a => ⟨?_, ?_⟩⟩
  · unfold Pipeline.Window.flush
    show (true && (decide (15 + 1 = grid0.N) || decide _)) = true
    rw [decide_eq_true (show 15 + 1 = grid0.N from N_0.symm)]; rfl
  · by_contra hne
    have h := flush_o (F := F) c t fun e => hne (Fin.ext (by show t.val = 15; omega))
    exact Bool.false_ne_true (h.symm.trans ht)
  · fin_cases a <;> rfl
  · fin_cases a <;> rfl

/-- The result's array ends holding what the last point left. -/
theorem fin_eq (c : Dev nD) : fin m c = outv m c 15 :=
  (dat m c).arrAt_eq_of_after_last 1 t15 (whole_o c) (outv m c 15) (fun _ => rfl)

/-- A point's block of the weights, read at an element. -/
theorem wB_apply (c : Dev nD) (t : Fin 16) (q : Fin 512) (j : Fin 4096) :
    wB m c t.val (ValueIdx.ix2 q j) = (m ((c : Thread nD τ).loc main_arg1) : S8192x4096.Idx → Elt F .bf16) (ValueIdx.ix2 (pos c t q) j) := by
  have hN : t.val < grid0.N := by rw [N_0]; exact t.isLt
  rw [show t.val = (⟨t.val, hN⟩ : Fin grid0.N).val from rfl, wB_eq, V7_arg1]
  refine congrArg (m ((c : Thread nD τ).loc main_arg1) : S8192x4096.Idx → Elt F .bf16) (funext fun a => Fin.ext ?_)
  have hi : ((cfg0 (F := F) (adm c)).win 0).index ⟨t.val, hN⟩ = ![wrow c t.val, 0] :=
    (transform_tbl c _).trans (by rw [coords_val])
  have hv := ((cfg0 (F := F) (adm c)).win 0).rect_emb_val ⟨t.val, hN⟩ (ValueIdx.ix2 q j) a
  rw [hi] at hv
  refine hv.trans ?_
  fin_cases a
  · rfl
  · show 0 * 4096 + j.val = j.val; omega

/-- A piece of `x`, read at an element, the devices' arrays being the blocks of a whole. -/
theorem got_apply (X : (⟨2, ![8192, 8192]⟩ : Shape).Idx → Elt F .bf16) (hx : ∀ c : Dev nD, xIn m c = Layout.block ⟨2, ![8192, 1024]⟩ ⟨2, ![8192, 8192]⟩ 1 8 c X)
    (c : Dev nD) (t : Fin 16) (r : Fin 1024) (q : Fin 512) (i : Fin 8192) (hi : i.val = c.val * 1024 + r.val) :
    got m c (slotOf t.val) (halfOf t.val) (ValueIdx.ix2 r q) = X (ValueIdx.ix2 i (pos c t q)) := by
  unfold got
  rw [hx, frm_slot]
  refine congrArg X (funext fun a => Fin.ext ?_)
  fin_cases a
  · show c.val * 1024 + 1 * r.val = i.val
    omega
  · show (src c t.val).val * 1024 + (t.val % 2 * 512 + 1 * q.val) = (2 * (src c t.val).val + t.val % 2) * 512 + q.val
    omega

end Array

/-! ## At exact arithmetic -/

section Exact
variable (m : (ℓ : Loc nD τ sig) → Buf (Elt Ideal) ℓ)

/-- A block's product, read at an element. -/
theorem mm_apply (w : Vec Ideal S512x4096 .bf16) (g : FVec Ideal S1024x512 .bf16) (r : Fin 1024) (j : Fin 4096) :
    mm w g (ValueIdx.ix2 r j) = (∑ q : Fin 512, (g (ValueIdx.ix2 r q) : EReal) * (w (ValueIdx.ix2 q j) : EReal) : EReal) := by
  refine (Ideal.matmul_plain_apply (M := 1024) (K := 512) (N := 4096) (φ₁ := .bf16) (φ₂ := .bf16) none g w (constant S1024x4096 .f32 0x00000000#32) r j).trans ?_
  show Ideal.ofBits .f32 0x00000000#32 + _ = _
  rw [Ideal.ofBits_zero_f32, zero_add]

/-- What has been summed after point `t` is the sum of the products up to it. -/
theorem part_apply (c : Dev nD) (i : S1024x4096.Idx) (t : ℕ) : part m c t i = (∑ u ∈ Finset.range (t + 1), (prod m c u i : EReal) : EReal) := by
  induction t with
  | zero => rw [Finset.sum_range_one]; rfl
  | succ t ih =>
    rw [Finset.sum_range_succ, ← ih]; rfl

/-- The sum of a device's sixteen products is its rows of the whole product. -/
theorem part_last (c : Dev nD) (X : (⟨2, ![8192, 8192]⟩ : Shape).Idx → EReal) (Y : S8192x4096.Idx → EReal)
    (hx : ∀ c : Dev nD, xIn m c = Layout.block ⟨2, ![8192, 1024]⟩ ⟨2, ![8192, 8192]⟩ 1 8 c X)
    (hw : m ((c : Thread nD τ).loc main_arg1) = Y) (r : Fin 1024) (j : Fin 4096) (i : Fin 8192) (hi : i.val = c.val * 1024 + r.val) :
    part m c 15 (ValueIdx.ix2 r j) = (∑ k : Fin 8192, X (ValueIdx.ix2 i k) * Y (ValueIdx.ix2 k j) : EReal) := by
  rw [part_apply, Finset.sum_range, ← sum_pos c]
  refine Finset.sum_congr rfl fun t _ => ?_
  show mm (wB m c t.val) (got m c (slotOf t.val) (halfOf t.val)) (ValueIdx.ix2 r j) = _
  rw [mm_apply]
  refine Finset.sum_congr rfl fun q _ => ?_
  rw [wB_apply m c t q j, got_apply m X hx c t r q i hi, hw]

end Exact

end Cert.KernelIdeal.Talk

end
-- ==== Proof.lean ====
/-
  The claims, each from its run: the kernel's as printed and at exact arithmetic, the reference's; and the kernel's result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Run
public import proofs.«01_k».proof.Proof.Bits.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed ends, its arguments unchanged, every counter back at zero. -/
theorem quiescent_kernel : Cert.quiescent_Kernel := fun m g _ =>
  (θ_run Cert.Kernel.defs _ _).mono (fun _ h => ⟨fun c => (h.1 c).2, h.2⟩) (Cert.Kernel.Talk.run_main (F := Bits) m g)

/-- The same at exact arithmetic. -/
theorem quiescent_ideal : Cert.quiescent_KernelIdeal := fun m g _ =>
  (θ_run Cert.KernelIdeal.defs _ _).mono (fun _ h => ⟨fun c => (h.1 c).2, h.2⟩) (Cert.KernelIdeal.Talk.run_main (F := Ideal) m g)

/-- The reference ends, its arguments unchanged. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The result of the whole arrays: their product, rounded (which at exact arithmetic changes nothing), clipped at zero. -/
abbrev whole (X : FVec Ideal Cert.ReferenceIdeal.S8192x8192 .bf16) (Y : FVec Ideal Cert.ReferenceIdeal.S8192x4096 .bf16) :
    FVec Ideal Cert.ReferenceIdeal.S8192x4096 .f32 :=
  maximumf (extf .f32 (truncf .bf16 (Host.dotGeneral Cert.ReferenceIdeal.dot_S8192x8192_S8192x4096_S8192x4096_1_0_0_1_n_n none X Y)
      Cert.ReferenceIdeal.Gen.bitsLt_bf16_f32) Cert.ReferenceIdeal.Gen.bitsLt_bf16_f32)
    (broadcastInDim Cert.ReferenceIdeal.S8192x4096 ![] Cert.ReferenceIdeal.Gen.bcast_S_S8192x4096 (constant Cert.ReferenceIdeal.S_ .f32 0x00000000#32))

/-- Its element at row `i` and column `j`. -/
theorem whole_apply (X : FVec Ideal Cert.ReferenceIdeal.S8192x8192 .bf16) (Y : FVec Ideal Cert.ReferenceIdeal.S8192x4096 .bf16) (i : Fin 8192) (j : Fin 4096) :
    whole X Y (ValueIdx.ix2 i j) = max (∑ k : Fin 8192, X (ValueIdx.ix2 i k) * Y (ValueIdx.ix2 k j)) (Ideal.ofBits .f32 0x00000000#32) := by
  rw [← StackMember.dotGeneral_plain_apply none X Y i j]
  rfl

/-- Device `c`'s result is block `c` of the rows of the reference's. -/
theorem algebraic : Cert.algebraic_KernelIdeal_ReferenceIdeal := by
  intro m g m' g' _ hagree
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ?_, (h.1 c).2⟩) (Cert.KernelIdeal.Talk.run_main (F := Ideal) m g)
    rw [Cert.KernelIdeal.Talk.fin_eq]
    funext x
    obtain ⟨r, j, rfl⟩ : ∃ (r : Fin 1024) (j : Fin 4096), x = ValueIdx.ix2 r j := ⟨x 0, x 1, (ValueIdx.eq_ix2 x)⟩
    have hb : c.val * 1024 + r.val < 8192 := by have : c.val < 8 := c.isLt; have := r.isLt; omega
    have e : (Layout.Tiles.idx (S := ⟨2, ![1024, 4096]⟩) (T := ⟨2, ![8192, 4096]⟩) (a := 0) (k := 8) (by decide) c (ValueIdx.ix2 r j))
        = ValueIdx.ix2 (⟨c.val * 1024 + r.val, hb⟩ : Fin 8192) j := by
      funext a; apply Fin.ext; fin_cases a <;> rfl
    rw [Layout.block_apply, e, whole_apply,
      ← Cert.KernelIdeal.Talk.part_last m c _ _ (fun d => (hagree d).1) (hagree c).2 r j ⟨c.val * 1024 + r.val, hb⟩ rfl]
    unfold Cert.KernelIdeal.Talk.outv Cert.KernelIdeal.Gen.k0_pay3
    rw [if_pos rfl, shapeCast_self]
    rfl
  · exact (θ_run Cert.ReferenceIdeal.defs _ _).mono (fun _ h => h 0) (Cert.ReferenceIdeal.Value.run (F := Ideal) m' g')

/-- The claims together. -/
theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
